-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_13) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v3_12) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256x256 : Shape := ⟨3, ![1024, 256, 256]⟩
abbrev S1x256x512 : Shape := ⟨3, ![1, 256, 512]⟩
abbrev S256x64x128 : Shape := ⟨3, ![256, 64, 128]⟩
abbrev S3x512 : Shape := ⟨2, ![3, 512]⟩
abbrev S3 : Shape := ⟨1, ![3]⟩
abbrev S128x512 : Shape := ⟨2, ![128, 512]⟩
abbrev S128 : Shape := ⟨1, ![128]⟩
abbrev S2048x384 : Shape := ⟨2, ![2048, 384]⟩
abbrev S2048x512 : Shape := ⟨2, ![2048, 512]⟩
abbrev S2048 : Shape := ⟨1, ![2048]⟩
abbrev S_ : Shape := ⟨0, ![]⟩
abbrev S512x256 : Shape := ⟨2, ![512, 256]⟩
abbrev S512x128 : Shape := ⟨2, ![512, 128]⟩
abbrev S1 : Shape := ⟨1, ![1]⟩
abbrev S512x3 : Shape := ⟨2, ![512, 3]⟩
abbrev S1x256 : Shape := ⟨2, ![1, 256]⟩
abbrev S2 : Shape := ⟨1, ![2]⟩
abbrev S2048x256 : Shape := ⟨2, ![2048, 256]⟩
abbrev S256x2048 : Shape := ⟨2, ![256, 2048]⟩
abbrev S2048x128 : Shape := ⟨2, ![2048, 128]⟩
abbrev S128x2048 : Shape := ⟨2, ![128, 2048]⟩
abbrev S512x2048 : Shape := ⟨2, ![512, 2048]⟩
abbrev S1x2048 : Shape := ⟨2, ![1, 2048]⟩
abbrev S64x256x128 : Shape := ⟨3, ![64, 256, 128]⟩
abbrev S1024x256x512 : Shape := ⟨3, ![1024, 256, 512]⟩
abbrev S1x256x256 : Shape := ⟨3, ![1, 256, 256]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 54
  | .vmem => 16
  | .smem => 0
  | _ => 0

abbrev bufTy : (tb : Table) → Fin (tcTables nBuf tb) → BufTy
  | .hbm, ⟨0, _⟩ => ⟨S1024x256x256, .f32⟩
  | .hbm, ⟨1, _⟩ => ⟨S1x256x512, .f32⟩
  | .hbm, ⟨2, _⟩ => ⟨S1x256x512, .f32⟩
  | .hbm, ⟨3, _⟩ => ⟨S256x64x128, .f32⟩
  | .hbm, ⟨4, _⟩ => ⟨S3x512, .f32⟩
  | .hbm, ⟨5, _⟩ => ⟨S3, .f32⟩
  | .hbm, ⟨6, _⟩ => ⟨S128x512, .f32⟩
  | .hbm, ⟨7, _⟩ => ⟨S128, .f32⟩
  | .hbm, ⟨8, _⟩ => ⟨S2048x384, .f32⟩
  | .hbm, ⟨9, _⟩ => ⟨S2048x512, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S512x256, .f32⟩
  | .hbm, ⟨14, _⟩ => ⟨S512x128, .f32⟩
  | .hbm, ⟨15, _⟩ => ⟨S_, .i32⟩
  | .hbm, ⟨16, _⟩ => ⟨S1, .i32⟩
  | .hbm, ⟨17, _⟩ => ⟨S512x256, .f32⟩
  | .hbm, ⟨18, _⟩ => ⟨S512x3, .f32⟩
  | .hbm, ⟨19, _⟩ => ⟨S_, .i32⟩
  | .hbm, ⟨20, _⟩ => ⟨S1, .i32⟩
  | .hbm, ⟨21, _⟩ => ⟨S512x256, .f32⟩
  | .hbm, ⟨22, _⟩ => ⟨S512x256, .bf16⟩
  | .hbm, ⟨23, _⟩ => ⟨S_, .f32⟩
  | .hbm, ⟨24, _⟩ => ⟨S1x256, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x256, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x256, .f32⟩
  | .hbm, ⟨37, _⟩ => ⟨S2048x256, .f32⟩
  | .hbm, ⟨38, _⟩ => ⟨S256x2048, .f32⟩
  | .hbm, ⟨39, _⟩ => ⟨S256x2048, .bf16⟩
  | .hbm, ⟨40, _⟩ => ⟨S2048x128, .f32⟩
  | .hbm, ⟨41, _⟩ => ⟨S128x2048, .f32⟩
  | .hbm, ⟨42, _⟩ => ⟨S128x2048, .bf16⟩
  | .hbm, ⟨43, _⟩ => ⟨S512x2048, .f32⟩
  | .hbm, ⟨44, _⟩ => ⟨S512x2048, .bf16⟩
  | .hbm, ⟨45, _⟩ => ⟨S2048, .f32⟩
  | .hbm, ⟨46, _⟩ => ⟨S1x2048, .f32⟩
  | .hbm, ⟨47, _⟩ => ⟨S64x256x128, .f32⟩
  | .hbm, ⟨48, _⟩ => ⟨S1024x256x256, .bf16⟩
  | .hbm, ⟨49, _⟩ => ⟨S1024x256x512, .f32⟩
  | .hbm, ⟨50, _⟩ => ⟨S1x256x512, .f32⟩
  | .hbm, ⟨51, _⟩ => ⟨S1x256x512, .f32⟩
  | .hbm, ⟨52, _⟩ => ⟨S64x256x128, .f32⟩
  | .hbm, ⟨53, _⟩ => ⟨S256x64x128, .f32⟩
  | .local _ .vmem, ⟨0, _⟩ => ⟨S1x256x256, .bf16⟩
  | .local _ .vmem, ⟨1, _⟩ => ⟨S1x256x256, .bf16⟩
  | .local _ .vmem, ⟨2, _⟩ => ⟨S1x256x512, .f32⟩
  | .local _ .vmem, ⟨3, _⟩ => ⟨S1x256x512, .f32⟩
  | .local _ .vmem, ⟨4, _⟩ => ⟨S512x256, .bf16⟩
  | .local _ .vmem, ⟨5, _⟩ => ⟨S1x256, .f32⟩
  | .local _ .vmem, ⟨6, _⟩ => ⟨S256x2048, .bf16⟩
  | .local _ .vmem, ⟨7, _⟩ => ⟨S128x2048, .bf16⟩
  | .local _ .vmem, ⟨8, _⟩ => ⟨S512x2048, .bf16⟩
  | .local _ .vmem, ⟨9, _⟩ => ⟨S1x2048, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S64x256x128, .f32⟩
  | .local _ .vmem, ⟨15, _⟩ => ⟨S256x2048, .f32⟩
  | _, _ => ⟨S1024x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_4 : Ref sig .tc := ⟨.hbm, 31, rfl⟩
abbrev main_v13 : Ref sig .tc := ⟨.hbm, 32, rfl⟩
abbrev main_c_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29_0 : Ref sig .tc := ⟨.hbm, 49, rfl⟩
abbrev main_v29_1 : Ref sig .tc := ⟨.hbm, 50, rfl⟩
abbrev main_v29_2 : Ref sig .tc := ⟨.hbm, 51, rfl⟩
abbrev main_v29_3 : Ref sig .tc := ⟨.hbm, 52, rfl⟩
abbrev main_v30 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S1024x256x256 : Shape := ⟨3, ![1024, 256, 256]⟩
abbrev S1x256x512 : Shape := ⟨3, ![1, 256, 512]⟩
abbrev S256x64x128 : Shape := ⟨3, ![256, 64, 128]⟩
abbrev S3x512 : Shape := ⟨2, ![3, 512]⟩
abbrev S3 : Shape := ⟨1, ![3]⟩
abbrev S128x512 : Shape := ⟨2, ![128, 512]⟩
abbrev S128 : Shape := ⟨1, ![128]⟩
abbrev S2048x384 : Shape := ⟨2, ![2048, 384]⟩
abbrev S2048x512 : Shape := ⟨2, ![2048, 512]⟩
abbrev S2048 : Shape := ⟨1, ![2048]⟩
abbrev S256x512 : Shape := ⟨2, ![256, 512]⟩
abbrev S_ : Shape := ⟨0, ![]⟩
abbrev S1024x256x512 : Shape := ⟨3, ![1024, 256, 512]⟩
abbrev S1x256x256 : Shape := ⟨3, ![1, 256, 256]⟩
abbrev S256x256 : Shape := ⟨2, ![256, 256]⟩
abbrev S512x3 : Shape := ⟨2, ![512, 3]⟩
abbrev S256x3 : Shape := ⟨2, ![256, 3]⟩
abbrev S1x3 : Shape := ⟨2, ![1, 3]⟩
abbrev S256 : Shape := ⟨1, ![256]⟩
abbrev S256x1 : Shape := ⟨2, ![256, 1]⟩
abbrev S512x128 : Shape := ⟨2, ![512, 128]⟩
abbrev S256x128 : Shape := ⟨2, ![256, 128]⟩
abbrev S1x128 : Shape := ⟨2, ![1, 128]⟩
abbrev S256x1x1 : Shape := ⟨3, ![256, 1, 1]⟩
abbrev S256x63x128 : Shape := ⟨3, ![256, 63, 128]⟩
abbrev S256x1x128 : Shape := ⟨3, ![256, 1, 128]⟩
abbrev S256x384 : Shape := ⟨2, ![256, 384]⟩
abbrev S384x2048 : Shape := ⟨2, ![384, 2048]⟩
abbrev S256x2048 : Shape := ⟨2, ![256, 2048]⟩
abbrev S1x2048 : Shape := ⟨2, ![1, 2048]⟩
abbrev S512x2048 : Shape := ⟨2, ![512, 2048]⟩

abbrev nBuf : Space → Nat
  | .hbm => 143
  | .vmem => 0
  | .smem => 0
  | _ => 0

abbrev hbmTy0_0 (i : Nat) : BufTy := match i % 128 with
  | 0 => ⟨S1024x256x256, .f32⟩
  | 1 => ⟨S1x256x512, .f32⟩
  | 2 => ⟨S1x256x512, .f32⟩
  | 3 => ⟨S256x64x128, .f32⟩
  | 4 => ⟨S3x512, .f32⟩
  | 5 => ⟨S3, .f32⟩
  | 6 => ⟨S128x512, .f32⟩
  | 7 => ⟨S128, .f32⟩
  | 8 => ⟨S2048x384, .f32⟩
  | 9 => ⟨S2048x512, .f32⟩
  | 10 => ⟨S2048, .f32⟩
  | 11 => ⟨S2048, .f32⟩
  | 12 => ⟨S256x512, .f32⟩
  | 13 => ⟨S256x512, .f32⟩
  | 14 => ⟨S_, .f32⟩
  | 15 => ⟨S1024x256x512, .f32⟩
  | 16 => ⟨S_, .i32⟩
  | 17 => ⟨S1024x256x256, .f32⟩
  | 18 => ⟨S3x512, .f32⟩
  | 19 => ⟨S3, .f32⟩
  | 20 => ⟨S128x512, .f32⟩
  | 21 => ⟨S128, .f32⟩
  | 22 => ⟨S2048x384, .f32⟩
  | 23 => ⟨S2048, .f32⟩
  | 24 => ⟨S2048x512, .f32⟩
  | 25 => ⟨S2048, .f32⟩
  | 26 => ⟨S_, .i32⟩
  | 27 => ⟨S256x512, .f32⟩
  | 28 => ⟨S256x512, .f32⟩
  | 29 => ⟨S256x64x128, .f32⟩
  | 30 => ⟨S1024x256x512, .f32⟩
  | 31 => ⟨S_, .i32⟩
  | 32 => ⟨S_, .i1⟩
  | 33 => ⟨S_, .i32⟩
  | 34 => ⟨S_, .i32⟩
  | 35 => ⟨S1x256x256, .f32⟩
  | 36 => ⟨S256x256, .f32⟩
  | 37 => ⟨S512x3, .f32⟩
  | 38 => ⟨S256x3, .f32⟩
  | 39 => ⟨S1x3, .f32⟩
  | 40 => ⟨S256x3, .f32⟩
  | 41 => ⟨S256x3, .f32⟩
  | 42 => ⟨S_, .f32⟩
  | 43 => ⟨S256, .f32⟩
  | 44 => ⟨S_, .f32⟩
  | 45 => ⟨S256, .f32⟩
  | 46 => ⟨S256, .f32⟩
  | 47 => ⟨S256x1, .f32⟩
  | 48 => ⟨S256x3, .f32⟩
  | 49 => ⟨S256x3, .f32⟩
  | 50 => ⟨S256x3, .f32⟩
  | 51 => ⟨S_, .f32⟩
  | 52 => ⟨S256, .f32⟩
  | 53 => ⟨S256x1, .f32⟩
  | 54 => ⟨S256x3, .f32⟩
  | 55 => ⟨S256x3, .f32⟩
  | 56 => ⟨S512x128, .f32⟩
  | 57 => ⟨S256x128, .f32⟩
  | 58 => ⟨S1x128, .f32⟩
  | 59 => ⟨S256x128, .f32⟩
  | 60 => ⟨S256x128, .f32⟩
  | 61 => ⟨S256x128, .f32⟩
  | 62 => ⟨S256x1, .f32⟩
  | 63 => ⟨S256, .f32⟩
  | 64 => ⟨S256x1x1, .f32⟩
  | 65 => ⟨S256x1, .f32⟩
  | 66 => ⟨S256, .f32⟩
  | 67 => ⟨S256x1x1, .f32⟩
  | 68 => ⟨S256x1, .f32⟩
  | 69 => ⟨S256, .f32⟩
  | 70 => ⟨S256x1x1, .f32⟩
  | 71 => ⟨S256x63x128, .f32⟩
  | 72 => ⟨S256x1x128, .f32⟩
  | 73 => ⟨S_, .f32⟩
  | 74 => ⟨S256x1x128, .f32⟩
  | 75 => ⟨S256x64x128, .f32⟩
  | 76 => ⟨S256x1x128, .f32⟩
  | 77 => ⟨S256x63x128, .f32⟩
  | 78 => ⟨S256x64x128, .f32⟩
  | 79 => ⟨S256x64x128, .f32⟩
  | 80 => ⟨S256x64x128, .f32⟩
  | 81 => ⟨S256x64x128, .f32⟩
  | 82 => ⟨S256x64x128, .f32⟩
  | 83 => ⟨S256x64x128, .f32⟩
  | 84 => ⟨S256x64x128, .f32⟩
  | 85 => ⟨S256x64x128, .f32⟩
  | 86 => ⟨S256x64x128, .f32⟩
  | 87 => ⟨S256x1x128, .f32⟩
  | 88 => ⟨S256x128, .f32⟩
  | 89 => ⟨S256x384, .f32⟩
  | 90 => ⟨S384x2048, .f32⟩
  | 91 => ⟨S256x2048, .f32⟩
  | 92 => ⟨S1x2048, .f32⟩
  | 93 => ⟨S256x2048, .f32⟩
  | 94 => ⟨S256x2048, .f32⟩
  | 95 => ⟨S512x2048, .f32⟩
  | 96 => ⟨S256x2048, .f32⟩
  | 97 => ⟨S256x2048, .f32⟩
  | 98 => ⟨S1x2048, .f32⟩
  | 99 => ⟨S256x2048, .f32⟩
  | 100 => ⟨S256x2048, .f32⟩
  | 101 => ⟨S256x512, .f32⟩
  | 102 => ⟨S256x512, .f32⟩
  | 103 => ⟨S256x512, .f32⟩
  | 104 => ⟨S256x512, .f32⟩
  | 105 => ⟨S256x512, .f32⟩
  | 106 => ⟨S256x512, .f32⟩
  | 107 => ⟨S_, .f32⟩
  | 108 => ⟨S256x512, .f32⟩
  | 109 => ⟨S256x512, .f32⟩
  | 110 => ⟨S_, .f32⟩
  | 111 => ⟨S256x512, .f32⟩
  | 112 => ⟨S256x512, .f32⟩
  | 113 => ⟨S256x512, .f32⟩
  | 114 => ⟨S256x512, .f32⟩
  | 115 => ⟨S256x512, .f32⟩
  | 116 => ⟨S_, .f32⟩
  | 117 => ⟨S256x512, .f32⟩
  | 118 => ⟨S256x512, .f32⟩
  | 119 => ⟨S_, .f32⟩
  | 120 => ⟨S256x512, .f32⟩
  | 121 => ⟨S256x512, .f32⟩
  | 122 => ⟨S256x512, .f32⟩
  | 123 => ⟨S256x512, .f32⟩
  | 124 => ⟨S256x512, .f32⟩
  | 125 => ⟨S256x512, .f32⟩
  | 126 => ⟨S256x512, .f32⟩
  | 127 => ⟨S_, .f32⟩
  | _ => ⟨S1024x256x256, .f32⟩

abbrev hbmTy0_1 (i : Nat) : BufTy := match i % 128 with
  | 0 => ⟨S256x512, .f32⟩
  | 1 => ⟨S256x512, .f32⟩
  | 2 => ⟨S_, .f32⟩
  | 3 => ⟨S256x512, .f32⟩
  | 4 => ⟨S256x512, .f32⟩
  | 5 => ⟨S256x512, .f32⟩
  | 6 => ⟨S256x512, .f32⟩
  | 7 => ⟨S1x256x512, .f32⟩
  | 8 => ⟨S_, .i32⟩
  | 9 => ⟨S_, .i32⟩
  | 10 => ⟨S1024x256x512, .f32⟩
  | 11 => ⟨S_, .i32⟩
  | 12 => ⟨S_, .i32⟩
  | 13 => ⟨S1x256x512, .f32⟩
  | 14 => ⟨S1x256x512, .f32⟩
  | _ => ⟨S1024x256x256, .f32⟩

abbrev hbmTy (i : Nat) : BufTy := match i / 128 with
  | 0 => hbmTy0_0 i
  | 1 => hbmTy0_1 i
  | _ => ⟨S1024x256x256, .f32⟩

abbrev bufTy : (tb : Table) → Fin (tcTables nBuf tb) → BufTy
  | .hbm, ⟨i, _⟩ => hbmTy i
  | _, _ => ⟨S1024x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_c : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev main_v3_5 : Ref sig .tc := ⟨.hbm, 22, rfl⟩
abbrev main_v3_6 : Ref sig .tc := ⟨.hbm, 23, rfl⟩
abbrev main_v3_7 : Ref sig .tc := ⟨.hbm, 24, rfl⟩
abbrev main_v3_8 : Ref sig .tc := ⟨.hbm, 25, rfl⟩
abbrev main_v3_9 : Ref sig .tc := ⟨.hbm, 26, rfl⟩
abbrev main_v3_10 : Ref sig .tc := ⟨.hbm, 27, rfl⟩
abbrev main_v3_11 : Ref sig .tc := ⟨.hbm, 28, rfl⟩
abbrev main_v3_12 : Ref sig .tc := ⟨.hbm, 29, rfl⟩
abbrev main_v3_13 : Ref sig .tc := ⟨.hbm, 30, rfl⟩
abbrev main_while0c_c_13 : Ref sig .tc := ⟨.hbm, 31, rfl⟩
abbrev main_while0c_v6 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_v0 : Ref sig .tc := ⟨.hbm, 35, rfl⟩
abbrev main_while0b_v6 : Ref sig .tc := ⟨.hbm, 36, rfl⟩
abbrev main_while0b_v7 : Ref sig .tc := ⟨.hbm, 37, rfl⟩
abbrev main_while0b_v8 : Ref sig .tc := ⟨.hbm, 38, rfl⟩
abbrev main_while0b_v9 : Ref sig .tc := ⟨.hbm, 39, rfl⟩
abbrev main_while0b_v10 : Ref sig .tc := ⟨.hbm, 40, rfl⟩
abbrev main_while0b_v11 : Ref sig .tc := ⟨.hbm, 41, rfl⟩
abbrev main_while0b_cst_13 : Ref sig .tc := ⟨.hbm, 42, rfl⟩
abbrev main_while0b_v12 : Ref sig .tc := ⟨.hbm, 43, rfl⟩
abbrev main_while0b_cst_14 : Ref sig .tc := ⟨.hbm, 44, rfl⟩
abbrev main_while0b_v13 : Ref sig .tc := ⟨.hbm, 45, rfl⟩
abbrev main_while0b_v14 : Ref sig .tc := ⟨.hbm, 46, rfl⟩
abbrev main_while0b_v15 : Ref sig .tc := ⟨.hbm, 47, rfl⟩
abbrev main_while0b_v16 : Ref sig .tc := ⟨.hbm, 48, rfl⟩
abbrev main_while0b_v17 : Ref sig .tc := ⟨.hbm, 49, rfl⟩
abbrev main_while0b_v18 : Ref sig .tc := ⟨.hbm, 50, rfl⟩
abbrev main_while0b_cst_15 : Ref sig .tc := ⟨.hbm, 51, rfl⟩
abbrev main_while0b_v19 : Ref sig .tc := ⟨.hbm, 52, rfl⟩
abbrev main_while0b_v20 : Ref sig .tc := ⟨.hbm, 53, rfl⟩
abbrev main_while0b_v21 : Ref sig .tc := ⟨.hbm, 54, rfl⟩
abbrev main_while0b_v22 : Ref sig .tc := ⟨.hbm, 55, rfl⟩
abbrev main_while0b_v23 : Ref sig .tc := ⟨.hbm, 56, rfl⟩
abbrev main_while0b_v24 : Ref sig .tc := ⟨.hbm, 57, rfl⟩
abbrev main_while0b_v25 : Ref sig .tc := ⟨.hbm, 58, rfl⟩
abbrev main_while0b_v26 : Ref sig .tc := ⟨.hbm, 59, rfl⟩
abbrev main_while0b_v27 : Ref sig .tc := ⟨.hbm, 60, rfl⟩
abbrev main_while0b_v28 : Ref sig .tc := ⟨.hbm, 61, rfl⟩
abbrev main_while0b_v29 : Ref sig .tc := ⟨.hbm, 62, rfl⟩
abbrev main_while0b_v30 : Ref sig .tc := ⟨.hbm, 63, rfl⟩
abbrev main_while0b_v31 : Ref sig .tc := ⟨.hbm, 64, rfl⟩
abbrev main_while0b_v32 : Ref sig .tc := ⟨.hbm, 65, rfl⟩
abbrev main_while0b_v33 : Ref sig .tc := ⟨.hbm, 66, rfl⟩
abbrev main_while0b_v34 : Ref sig .tc := ⟨.hbm, 67, rfl⟩
abbrev main_while0b_v35 : Ref sig .tc := ⟨.hbm, 68, rfl⟩
abbrev main_while0b_v36 : Ref sig .tc := ⟨.hbm, 69, rfl⟩
abbrev main_while0b_v37 : Ref sig .tc := ⟨.hbm, 70, rfl⟩
abbrev main_while0b_v38 : Ref sig .tc := ⟨.hbm, 71, rfl⟩
abbrev main_while0b_v39 : Ref sig .tc := ⟨.hbm, 72, rfl⟩
abbrev main_while0b_cst_16 : Ref sig .tc := ⟨.hbm, 73, rfl⟩
abbrev main_while0b_v40 : Ref sig .tc := ⟨.hbm, 74, rfl⟩
abbrev main_while0b_v41 : Ref sig .tc := ⟨.hbm, 75, rfl⟩
abbrev main_while0b_v42 : Ref sig .tc := ⟨.hbm, 76, rfl⟩
abbrev main_while0b_v43 : Ref sig .tc := ⟨.hbm, 77, rfl⟩
abbrev main_while0b_v44 : Ref sig .tc := ⟨.hbm, 78, rfl⟩
abbrev main_while0b_v45 : Ref sig .tc := ⟨.hbm, 79, rfl⟩
abbrev main_while0b_v46 : Ref sig .tc := ⟨.hbm, 80, rfl⟩
abbrev main_while0b_v47 : Ref sig .tc := ⟨.hbm, 81, rfl⟩
abbrev main_while0b_v48 : Ref sig .tc := ⟨.hbm, 82, rfl⟩
abbrev main_while0b_v49 : Ref sig .tc := ⟨.hbm, 83, rfl⟩
abbrev main_while0b_v50 : Ref sig .tc := ⟨.hbm, 84, rfl⟩
abbrev main_while0b_v51 : Ref sig .tc := ⟨.hbm, 85, rfl⟩
abbrev main_while0b_v52 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_v63 : Ref sig .tc := ⟨.hbm, 97, rfl⟩
abbrev main_while0b_v64 : Ref sig .tc := ⟨.hbm, 98, rfl⟩
abbrev main_while0b_v65 : Ref sig .tc := ⟨.hbm, 99, rfl⟩
abbrev main_while0b_v66 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_v70 : Ref sig .tc := ⟨.hbm, 104, rfl⟩
abbrev main_while0b_v71 : Ref sig .tc := ⟨.hbm, 105, rfl⟩
abbrev main_while0b_v72 : Ref sig .tc := ⟨.hbm, 106, rfl⟩
abbrev main_while0b_cst_17 : Ref sig .tc := ⟨.hbm, 107, rfl⟩
abbrev main_while0b_v73 : Ref sig .tc := ⟨.hbm, 108, rfl⟩
abbrev main_while0b_v74 : Ref sig .tc := ⟨.hbm, 109, rfl⟩
abbrev main_while0b_cst_18 : Ref sig .tc := ⟨.hbm, 110, rfl⟩
abbrev main_while0b_v75 : Ref sig .tc := ⟨.hbm, 111, rfl⟩
abbrev main_while0b_v76 : Ref sig .tc := ⟨.hbm, 112, rfl⟩
abbrev main_while0b_v77 : Ref sig .tc := ⟨.hbm, 113, rfl⟩
abbrev main_while0b_v78 : Ref sig .tc := ⟨.hbm, 114, rfl⟩
abbrev main_while0b_v79 : Ref sig .tc := ⟨.hbm, 115, rfl⟩
abbrev main_while0b_cst_19 : Ref sig .tc := ⟨.hbm, 116, rfl⟩
abbrev main_while0b_v80 : Ref sig .tc := ⟨.hbm, 117, rfl⟩
abbrev main_while0b_v81 : Ref sig .tc := ⟨.hbm, 118, rfl⟩
abbrev main_while0b_cst_20 : Ref sig .tc := ⟨.hbm, 119, rfl⟩
abbrev main_while0b_v82 : Ref sig .tc := ⟨.hbm, 120, rfl⟩
abbrev main_while0b_v83 : Ref sig .tc := ⟨.hbm, 121, rfl⟩
abbrev main_while0b_v84 : Ref sig .tc := ⟨.hbm, 122, rfl⟩
abbrev main_while0b_v85 : Ref sig .tc := ⟨.hbm, 123, rfl⟩
abbrev main_while0b_v86 : Ref sig .tc := ⟨.hbm, 124, rfl⟩
abbrev main_while0b_v87 : Ref sig .tc := ⟨.hbm, 125, rfl⟩
abbrev main_while0b_v88 : Ref sig .tc := ⟨.hbm, 126, rfl⟩
abbrev main_while0b_cst_21 : Ref sig .tc := ⟨.hbm, 127, rfl⟩
abbrev main_while0b_v89 : Ref sig .tc := ⟨.hbm, 128, rfl⟩
abbrev main_while0b_v90 : Ref sig .tc := ⟨.hbm, 129, rfl⟩
abbrev main_while0b_cst_22 : Ref sig .tc := ⟨.hbm, 130, rfl⟩
abbrev main_while0b_v91 : Ref sig .tc := ⟨.hbm, 131, rfl⟩
abbrev main_while0b_v92 : Ref sig .tc := ⟨.hbm, 132, rfl⟩
abbrev main_while0b_v93 : Ref sig .tc := ⟨.hbm, 133, rfl⟩
abbrev main_while0b_v94 : Ref sig .tc := ⟨.hbm, 134, rfl⟩
abbrev main_while0b_call1_v0 : Ref sig .tc := ⟨.hbm, 135, rfl⟩
abbrev main_while0b_call1_c : Ref sig .tc := ⟨.hbm, 136, rfl⟩
abbrev main_while0b_call1_c_0 : Ref sig .tc := ⟨.hbm, 137, rfl⟩
abbrev main_while0b_v95 : Ref sig .tc := ⟨.hbm, 138, rfl⟩
abbrev main_while0b_c_23 : Ref sig .tc := ⟨.hbm, 139, rfl⟩
abbrev main_while0b_v96 : Ref sig .tc := ⟨.hbm, 140, rfl⟩
abbrev main_v4 : Ref sig .tc := ⟨.hbm, 141, rfl⟩
abbrev main_v5 : Ref sig .tc := ⟨.hbm, 142, rfl⟩

abbrev nD : Nat := 1
abbrev τ : Topo := Topo.v7x

variable {F : FTy → Type} [FloatOps F]

abbrev main_while0_count : Scf.Loop 32 := ⟨0#32, 1024#32, 1#32⟩
-- ==== Proof.StackRnn.LastRun.lean ====
/-
  The kernel's body at the grid's last point, with the contents of its final transfer named. The generated run of that point
  gives back the buffer that the body fills by its own transfer at SOME contents; here it comes back at the words transferred.
-/
module

public import proofs.«01_k».proof.Proof.Gen.KernelIdeal.Frame.RunC

@[expose] public section

set_option maxRecDepth 16384

noncomputable section

namespace Cert.StackRnn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

set_option maxHeartbeats 1360000 in
/-- What the body leaves at the last point: the pieces it stores into each buffer, and the words `D` that its transfer moves, with
    the body's triple there: the transfer's destination reads `D` afterwards. -/
def lastRun (c : Dev nD) (i : grid0.Coords)
    (b1 : Memref sig .tc .vmem S1x256x256 .bf16) (w1 : b1.IsWhole) (b2 : Memref sig .tc .vmem S1x256x512 .f32) (w2 : b2.IsWhole)
    (b3 : Memref sig .tc .vmem S1x256x512 .f32) (w3 : b3.IsWhole) (b5 : Memref sig .tc .vmem S512x256 .bf16) (w5 : b5.IsWhole)
    (b6 : Memref sig .tc .vmem S1x256 .f32) (w6 : b6.IsWhole) (b7 : Memref sig .tc .vmem S256x2048 .bf16) (w7 : b7.IsWhole)
    (b8 : Memref sig .tc .vmem S128x2048 .bf16) (w8 : b8.IsWhole) (b9 : Memref sig .tc .vmem S512x2048 .bf16) (w9 : b9.IsWhole)
    (b10 : Memref sig .tc .vmem S1x2048 .f32) (w10 : b10.IsWhole) (b11 : Memref sig .tc .vmem S1x256x512 .f32) (w11 : b11.IsWhole)
    (b12 : Memref sig .tc .vmem S1x256x512 .f32) (w12 : b12.IsWhole) (b13 : Memref sig .tc .vmem S1x256x512 .f32) (w13 : b13.IsWhole)
    (b15 : Memref sig .tc .vmem S64x256x128 .f32) (w15 : b15.IsWhole) (b16 : Memref sig .tc .vmem S256x2048 .f32) (w16 : b16.IsWhole)
    (hc0 : ¬cond0_0 i) (hc1 : cond0_1 i)
    (x0 : Vec F S1x256x256 .bf16) (x1 x2 : Vec F S1x256x512 .f32) (x3 : Vec F S512x256 .bf16) (x4 : Vec F S1x256 .f32)
    (x5 : Vec F S256x2048 .bf16) (x6 : Vec F S128x2048 .bf16) (x7 : Vec F S512x2048 .bf16) (x8 : Vec F S1x2048 .f32)
    (h c' : Vec F S1x256x512 .f32) (s : Vec F S64x256x128 .f32) (s0 : HbBuf0 (F := F) c hbM0_0) :
    Σ' (L9 : List (View.Piece (Elt F) S1x256x512 .f32)), Σ' (L10 : List (View.Piece (Elt F) S1x256x512 .f32)),
    Σ' (L11 : List (View.Piece (Elt F) S1x256x512 .f32)), Σ' (LS : List (View.Piece (Elt F) S64x256x128 .f32)),
    Σ' (LT : List (View.Piece (Elt F) S256x2048 .f32)),
    { D : Vec F S64x256x128 .f32 // ∀ (W : Waits sig Unit) (K : PUnit → sProp 𝕄),
      iprop(owns (c : Thread nD τ) b1 fullShare x0 ∗ owns (c : Thread nD τ) b2 fullShare x1 ∗ owns (c : Thread nD τ) b3 fullShare x2
          ∗ owns (c : Thread nD τ) b5 fullShare x3 ∗ owns (c : Thread nD τ) b6 fullShare x4 ∗ owns (c : Thread nD τ) b7 fullShare x5
          ∗ owns (c : Thread nD τ) b8 fullShare x6 ∗ owns (c : Thread nD τ) b9 fullShare x7 ∗ owns (c : Thread nD τ) b10 fullShare x8
          ∗ (∃ d, owns (c : Thread nD τ) b11 fullShare d) ∗ owns (c : Thread nD τ) b12 fullShare h ∗ owns (c : Thread nD τ) b13 fullShare c'
          ∗ owns (c : Thread nD τ) b15 fullShare s ∗ (∃ d, owns (c : Thread nD τ) b16 fullShare d)
          ∗ semVal ((c : Thread nD τ), SemLoc.dma 14) 0 ∗ semVal ((c : Thread nD τ), SemLoc.dma 15) 0
          ∗ hbPt0 c hbM0_0 s0 ∗ (∃ f, hbPt0 c hbM0_1 f) ∗ owes (c : Thread nD τ) 0 W
          ∗ (iprop(owns (c : Thread nD τ) b1 fullShare x0 ∗ owns (c : Thread nD τ) b2 fullShare x1 ∗ owns (c : Thread nD τ) b3 fullShare x2
              ∗ owns (c : Thread nD τ) b5 fullShare x3 ∗ owns (c : Thread nD τ) b6 fullShare x4 ∗ owns (c : Thread nD τ) b7 fullShare x5
              ∗ owns (c : Thread nD τ) b8 fullShare x6 ∗ owns (c : Thread nD τ) b9 fullShare x7 ∗ owns (c : Thread nD τ) b10 fullShare x8
              ∗ (∃ f, b11.view.loc (c : Thread nD τ) ↦[b11.view.set]{fullShare} b11.view.writes (Elt F) f L9)
              ∗ (∃ f, b12.view.loc (c : Thread nD τ) ↦[b12.view.set]{fullShare} b12.view.writes (Elt F) f L10)
              ∗ (∃ f, b13.view.loc (c : Thread nD τ) ↦[b13.view.set]{fullShare} b13.view.writes (Elt F) f L11)
              ∗ (∃ f, b15.view.loc (c : Thread nD τ) ↦[b15.view.set]{fullShare} b15.view.writes (Elt F) f LS)
              ∗ (∃ f, b16.view.loc (c : Thread nD τ) ↦[b16.view.set]{fullShare} b16.view.writes (Elt F) f LT)
              ∗ semVal ((c : Thread nD τ), SemLoc.dma 14) 0 ∗ semVal ((c : Thread nD τ), SemLoc.dma 15) 0
              ∗ hbPt0 c hbM0_0 s0 ∗ (∃ f, ⌜hbM0_1.view.read (Elt F) f = D⌝ ∗ hbPt0 c hbM0_1 f)
              ∗ (∃ W', owes (c : Thread nD τ) 0 W')) -∗ K ⟨⟩))
        ⊢ wp frame (wpE (defs₀ (F := F)) Variants.none c none) Set.univ
            (cc0_stack_rnn i b1 w1 b2 w2 b3 w3 (Memref.whole main_v27) (Memref.isWhole_whole _) b5 w5 b6 w6 b7 w7 b8 w8 b9 w9 b10 w10
              b11 w11 b12 w12 b13 w13 (Memref.whole main_v29_3) (Memref.isWhole_whole _) b15 w15 b16 w16 cc0_scratch2 cc0_scratch3) K } := by
  refine ⟨?_, ?_, ?_, ?_, ?_, ?_, fun W K => ?run⟩
  case run =>
    simp only [cc0_stack_rnn_eq_skeleton]; unfold cc0_stack_rnn_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
      ⟨%f7, %e7, H7⟩, ⟨%f8, %e8, H8⟩, ⟨%d9, %f9, -, H9⟩, ⟨%f10, %e10, H10⟩, ⟨%f11, %e11, H11⟩, ⟨%fs0, %es0, HS0⟩,
      ⟨%ds1, %fs1, -, HS1⟩, Hq0, Hq1, Hh0, ⟨%fw1, Hh1⟩, HW, Hk⟩
    obtain rfl := w1.eq_unread e0; obtain rfl := w2.eq_unread e1; obtain rfl := w3.eq_unread e2; obtain rfl := w5.eq_unread e3
    obtain rfl := w6.eq_unread e4; obtain rfl := w7.eq_unread e5; obtain rfl := w8.eq_unread e6; obtain rfl := w9.eq_unread e7
    obtain rfl := w10.eq_unread e8; obtain rfl := w12.eq_unread e10; obtain rfl := w13.eq_unread e11; obtain rfl := w15.eq_unread es0
    sl_exec (disch := first | sl_exact hc0 | sl_exact hc1)
    sl_step
    iapply Hk
    isplitl [H0]; · iexists _; isplitr; · ipureintro; exact e0
                    iexact H0
    isplitl [H1]; · iexists _; isplitr; · ipureintro; exact e1
                    iexact H1
    isplitl [H2]; · iexists _; isplitr; · ipureintro; exact e2
                    iexact H2
    isplitl [H3]; · iexists _; isplitr; · ipureintro; exact e3
                    iexact H3
    isplitl [H4]; · iexists _; isplitr; · ipureintro; exact e4
                    iexact H4
    isplitl [H5]; · iexists _; isplitr; · ipureintro; exact e5
                    iexact H5
    isplitl [H6]; · iexists _; isplitr; · ipureintro; exact e6
                    iexact H6
    isplitl [H7]; · iexists _; isplitr; · ipureintro; exact e7
                    iexact H7
    isplitl [H8]; · iexists _; isplitr; · ipureintro; exact e8
                    iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [Hq0]; · iexact Hq0
    isplitl [Hq1]; · iexact Hq1
    isplitl [Hh0]; · iexact Hh0
    isplitl [Hh1]
    · iexists _; isplitr
      swap; · iexact Hh1
      ipureintro; exact View.read_write_univ _ _
    iexists _; iexact HW

end Cert.StackRnn

end
-- ==== Proof.StackRnn.Arm.lean ====
/-
  The kernel's launch with its fourth result named, first part. The generated launch says nothing of the buffer that the body fills
  by its own transfer; here the invariant says, after the last point, that this buffer reads the stack the last point leaves. This
  module states that invariant and carries the body's run at any point through it.
-/
module

public import proofs.«01_k».proof.Proof.Gen.KernelIdeal.Frame
public import proofs.«01_k».proof.Proof.StackRnn.LastRun
public import Idealize.ShloMosaic.Lib.Pipeline.FrameSuffixV

@[expose] public section

set_option maxRecDepth 16384

noncomputable section

namespace Cert.StackRnn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The stack the last point leaves. -/
def lastStack (c : Dev nD) : Vec F S64x256x128 .f32 := (outsAt0 m c 1023 (by decide +kernel)).2.2.2

/-- The carried stack before point `n`: anything before the first, then what the point before left. -/
def carried (c : Dev nD) : (n : ℕ) → n ≤ cfg0.N → sProp 𝕄
  | 0, _ => iprop(∃ d, owns (c : Thread nD τ) scM0_0 fullShare d)
  | n + 1, h => owns (c : Thread nD τ) scM0_0 fullShare (outsAt0 m c n h).2.2.2

/-- The buffer the body fills by its own transfer, at some contents. -/
def anyOut (c : Dev nD) : sProp 𝕄 := iprop(∃ f, hbPt0 (F := F) c hbM0_1 f)

/-- The same buffer, reading `D`. -/
def outReads (c : Dev nD) (D : Vec F S64x256x128 .f32) : sProp 𝕄 := iprop(∃ f, ⌜hbM0_1.view.read (Elt F) f = D⌝ ∗ hbPt0 c hbM0_1 f)

/-- The invariant's parts but for the stack `S` and the buffer the body fills, `O`. -/
def inv (c : Dev nD) (S O : sProp 𝕄) : sProp 𝕄 :=
  iprop((S ∗ (∃ d, owns (c : Thread nD τ) scM0_1 fullShare d))
    ∗ (semVal ((c : Thread nD τ), SemLoc.dma 14) 0 ∗ semVal ((c : Thread nD τ), SemLoc.dma 15) 0)
    ∗ hbPt0 c hbM0_0 (V m c main_v27) ∗ O)

/-- The proof data: the generated ones, but for the invariant, which names the filled buffer's contents after the last point. -/
def namedDats (_ : Fin 1) (c : Dev nD) : Dat τ (Elt F) Unit ℕ (Pipeline.UD sig nD τ) ℕ cfg0 c where
  A := (dats m 0 c).A
  after := (dats m 0 c).after
  Φ t := inv m c (carried m c t.val (Nat.le_of_lt_succ t.isLt)) (if t.val = 1024 then outReads c (lastStack m c) else anyOut c)
  q _ := fullShare
  owed _ := 0

theorem named_before (c : Dev nD) (w : Fin cfg0.W) (t : Fin cfg0.N) (d) : (namedDats m 0 c).before w t d = (dats m 0 c).before w t d := rfl

set_option maxHeartbeats 4000000 in
/-- The body at a point, from its run there (`hrun`), whatever pieces it stores: the invariant's parts and the blocks go in, and
    come back at what the pieces leave. -/
theorem arm (c : Dev nD) (t : Fin cfg0.N) {P10 P11 S O : sProp 𝕄} {L9 L10 L11 : List (View.Piece (Elt F) S1x256x512 .f32)}
    {LS : List (View.Piece (Elt F) S64x256x128 .f32)} {LT : List (View.Piece (Elt F) S256x2048 .f32)}
    (hrun : ∀ (W : Waits sig Unit) (K : PUnit → sProp 𝕄),
      iprop(owns (c : Thread nD τ) (ms0_0 t) fullShare (iblk m c 0 t) ∗ owns (c : Thread nD τ) (ms0_1 t) fullShare (iblk m c 1 t)
          ∗ owns (c : Thread nD τ) (ms0_2 t) fullShare (iblk m c 2 t) ∗ owns (c : Thread nD τ) (ms0_3 t) fullShare (iblk m c 3 t)
          ∗ owns (c : Thread nD τ) (ms0_4 t) fullShare (iblk m c 4 t) ∗ owns (c : Thread nD τ) (ms0_5 t) fullShare (iblk m c 5 t)
          ∗ owns (c : Thread nD τ) (ms0_6 t) fullShare (iblk m c 6 t) ∗ owns (c : Thread nD τ) (ms0_7 t) fullShare (iblk m c 7 t)
          ∗ owns (c : Thread nD τ) (ms0_8 t) fullShare (iblk m c 8 t)
          ∗ (∃ d, owns (c : Thread nD τ) (ms0_9 t) fullShare d) ∗ P10 ∗ P11 ∗ S ∗ (∃ d, owns (c : Thread nD τ) scM0_1 fullShare d)
          ∗ semVal ((c : Thread nD τ), SemLoc.dma 14) 0 ∗ semVal ((c : Thread nD τ), SemLoc.dma 15) 0
          ∗ hbPt0 c hbM0_0 (V m c main_v27) ∗ (∃ f, hbPt0 c hbM0_1 f) ∗ owes (c : Thread nD τ) 0 W
          ∗ (iprop(owns (c : Thread nD τ) (ms0_0 t) fullShare (iblk m c 0 t) ∗ owns (c : Thread nD τ) (ms0_1 t) fullShare (iblk m c 1 t)
              ∗ owns (c : Thread nD τ) (ms0_2 t) fullShare (iblk m c 2 t) ∗ owns (c : Thread nD τ) (ms0_3 t) fullShare (iblk m c 3 t)
              ∗ owns (c : Thread nD τ) (ms0_4 t) fullShare (iblk m c 4 t) ∗ owns (c : Thread nD τ) (ms0_5 t) fullShare (iblk m c 5 t)
              ∗ owns (c : Thread nD τ) (ms0_6 t) fullShare (iblk m c 6 t) ∗ owns (c : Thread nD τ) (ms0_7 t) fullShare (iblk m c 7 t)
              ∗ owns (c : Thread nD τ) (ms0_8 t) fullShare (iblk m c 8 t)
              ∗ (∃ f, (ms0_9 t).view.loc (c : Thread nD τ) ↦[(ms0_9 t).view.set]{fullShare} (ms0_9 t).view.writes (Elt F) f L9)
              ∗ (∃ f, (ms0_10 t).view.loc (c : Thread nD τ) ↦[(ms0_10 t).view.set]{fullShare} (ms0_10 t).view.writes (Elt F) f L10)
              ∗ (∃ f, (ms0_11 t).view.loc (c : Thread nD τ) ↦[(ms0_11 t).view.set]{fullShare} (ms0_11 t).view.writes (Elt F) f L11)
              ∗ (∃ f, scM0_0.view.loc (c : Thread nD τ) ↦[scM0_0.view.set]{fullShare} scM0_0.view.writes (Elt F) f LS)
              ∗ (∃ f, scM0_1.view.loc (c : Thread nD τ) ↦[scM0_1.view.set]{fullShare} scM0_1.view.writes (Elt F) f LT)
              ∗ semVal ((c : Thread nD τ), SemLoc.dma 14) 0 ∗ semVal ((c : Thread nD τ), SemLoc.dma 15) 0
              ∗ hbPt0 c hbM0_0 (V m c main_v27) ∗ O ∗ (∃ W', owes (c : Thread nD τ) 0 W')) -∗ K ⟨⟩))
        ⊢ wp frame (wpE (defs₀ (F := F)) Variants.none c none) Set.univ (bodyAt0 t) K)
    (h10 : iprop(∃ d, owns (c : Thread nD τ) (ms0_10 t) fullShare ((dats m 0 c).before 10 t d)) ⊢ P10)
    (h11 : iprop(∃ d, owns (c : Thread nD τ) (ms0_11 t) fullShare ((dats m 0 c).before 11 t d)) ⊢ P11)
    (hS : carried m c t.val (Nat.le_of_lt t.isLt) ⊢ S)
    (g9 : ∀ f, (ms0_9 t).view.read (Elt F) ((ms0_9 t).view.writes (Elt F) f L9) = (outsAt0 m c t.val t.isLt).1)
    (g10 : ∀ f, (ms0_10 t).view.read (Elt F) ((ms0_10 t).view.writes (Elt F) f L10) = (outsAt0 m c t.val t.isLt).2.1)
    (g11 : ∀ f, (ms0_11 t).view.read (Elt F) ((ms0_11 t).view.writes (Elt F) f L11) = (outsAt0 m c t.val t.isLt).2.2.1)
    (gS : ∀ f, scM0_0.view.read (Elt F) (scM0_0.view.writes (Elt F) f LS) = (outsAt0 m c t.val t.isLt).2.2.2)
    (gO : O ⊢ if t.val + 1 = 1024 then outReads c (lastStack m c) else anyOut c) :
    iprop((namedDats m 0 c).Φ t.castSucc ∗ (namedDats m 0 c).owesAt () t.castSucc
      ∗ (∃ d, owns (c : Thread nD τ) (ms0_0 t) fullShare ((namedDats m 0 c).before 0 t d))
      ∗ (∃ d, owns (c : Thread nD τ) (ms0_1 t) fullShare ((namedDats m 0 c).before 1 t d))
      ∗ (∃ d, owns (c : Thread nD τ) (ms0_2 t) fullShare ((namedDats m 0 c).before 2 t d))
      ∗ (∃ d, owns (c : Thread nD τ) (ms0_3 t) fullShare ((namedDats m 0 c).before 3 t d))
      ∗ (∃ d, owns (c : Thread nD τ) (ms0_4 t) fullShare ((namedDats m 0 c).before 4 t d))
      ∗ (∃ d, owns (c : Thread nD τ) (ms0_5 t) fullShare ((namedDats m 0 c).before 5 t d))
      ∗ (∃ d, owns (c : Thread nD τ) (ms0_6 t) fullShare ((namedDats m 0 c).before 6 t d))
      ∗ (∃ d, owns (c : Thread nD τ) (ms0_7 t) fullShare ((namedDats m 0 c).before 7 t d))
      ∗ (∃ d, owns (c : Thread nD τ) (ms0_8 t) fullShare ((namedDats m 0 c).before 8 t d))
      ∗ (∃ d, owns (c : Thread nD τ) (ms0_9 t) fullShare ((namedDats m 0 c).before 9 t d))
      ∗ (∃ d, owns (c : Thread nD τ) (ms0_10 t) fullShare ((namedDats m 0 c).before 10 t d))
      ∗ (∃ d, owns (c : Thread nD τ) (ms0_11 t) fullShare ((namedDats m 0 c).before 11 t d)))
    ⊢ wp frame (wpE (defs₀ (F := F)) Variants.none c none) Set.univ (bodyAt0 t) (fun _ =>
      iprop((namedDats m 0 c).Φ t.succ ∗ (namedDats m 0 c).owesAt () t.succ
        ∗ owns (c : Thread nD τ) (ms0_0 t) fullShare ((namedDats m 0 c).after 0 t)
        ∗ owns (c : Thread nD τ) (ms0_1 t) fullShare ((namedDats m 0 c).after 1 t)
        ∗ owns (c : Thread nD τ) (ms0_2 t) fullShare ((namedDats m 0 c).after 2 t)
        ∗ owns (c : Thread nD τ) (ms0_3 t) fullShare ((namedDats m 0 c).after 3 t)
        ∗ owns (c : Thread nD τ) (ms0_4 t) fullShare ((namedDats m 0 c).after 4 t)
        ∗ owns (c : Thread nD τ) (ms0_5 t) fullShare ((namedDats m 0 c).after 5 t)
        ∗ owns (c : Thread nD τ) (ms0_6 t) fullShare ((namedDats m 0 c).after 6 t)
        ∗ owns (c : Thread nD τ) (ms0_7 t) fullShare ((namedDats m 0 c).after 7 t)
        ∗ owns (c : Thread nD τ) (ms0_8 t) fullShare ((namedDats m 0 c).after 8 t)
        ∗ owns (c : Thread nD τ) (ms0_9 t) fullShare ((namedDats m 0 c).after 9 t)
        ∗ owns (c : Thread nD τ) (ms0_10 t) fullShare ((namedDats m 0 c).after 10 t)
        ∗ owns (c : Thread nD τ) (ms0_11 t) fullShare ((namedDats m 0 c).after 11 t))) := by
  have hN : t.val < 1024 := lt_of_lt_of_eq t.isLt (show cfg0.N = 1024 from N_0)
  simp only [named_before, before0_0, before0_1, before0_2, before0_3, before0_4, before0_5, before0_6, before0_7, before0_8]
  rw [show (namedDats m 0 c).after = (dats m 0 c).after from rfl,
    after0_0, after0_1, after0_2, after0_3, after0_4, after0_5, after0_6, after0_7, after0_8, after0_9, after0_10, after0_11]
  rw [show (namedDats m 0 c).Φ t.castSucc = inv m c (carried m c t.val (Nat.le_of_lt t.isLt)) (if t.val = 1024 then outReads c (lastStack m c) else anyOut c) from rfl,
    show (namedDats m 0 c).Φ t.succ = inv m c (owns (c : Thread nD τ) scM0_0 fullShare (outsAt0 m c t.val t.isLt).2.2.2) (if t.val + 1 = 1024 then outReads c (lastStack m c) else anyOut c) from rfl,
    if_neg (by omega)]
  unfold Dat.owesAt Pipeline.owesWithin inv
  rw [show (namedDats m 0 c).owed t.castSucc = 0 from rfl, show (namedDats m 0 c).owed t.succ = 0 from rfl]
  iintro ⟨⟨⟨HS0, HS1⟩, ⟨Hq0, Hq1⟩, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (hrun W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iapply h10; iexact H10
  isplitl [H11]; · iapply h11; iexact H11
  isplitl [HS0]; · iapply hS; iexact HS0
  isplitl [HS1]; · iexact HS1
  isplitl [Hq0]; · iexact Hq0
  isplitl [Hq1]; · iexact Hq1
  isplitl [Hh0]; · iexact Hh0
  isplitl [Hh1]; · unfold anyOut; iexact Hh1
  isplitl [HW]; · iexact HW
  iintro ⟨H0, H1, H2, H3, H4, H5, H6, H7, H8, ⟨%e9, H9⟩, ⟨%e10, H10⟩, ⟨%e11, H11⟩, ⟨%es0, HS0⟩, ⟨%fT1, HS1⟩, Hq0, Hq1, Hh0, Hh1, ⟨%W', HW'⟩⟩
  isplitl [HS0 HS1 Hq0 Hq1 Hh0 Hh1]
  · isplitl [HS0 HS1]
    · isplitl [HS0]
      · unfold owns; iexists _; isplitr
        swap; · iexact HS0
        ipureintro; exact gS _
      iexists _; unfold owns; iexists _; isplitr
      swap; · iexact HS1
      ipureintro; rfl
    isplitl [Hq0 Hq1]
    · isplitl [Hq0]; · iexact Hq0
      iexact Hq1
    isplitl [Hh0]
    · iexact Hh0
    iapply gO; iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact g9 _
  isplitl [H10]
  · unfold owns; iexists _; isplitr
    swap; · iexact H10
    ipureintro; exact g10 _
  unfold owns; iexists _; isplitr
  swap; · iexact H11
  ipureintro; exact g11 _

end Cert.StackRnn

end
-- ==== Proof.StackRnn.NamedBody.lean ====
/-
  The library's body obligation for the named proof data (Arm.lean): `arm` at each of the three kinds of point, the last point
  with the run that names its transfer (LastRun.lean).
-/
module

public import proofs.«01_k».proof.Proof.Gen.KernelIdeal.Frame
public import proofs.«01_k».proof.Proof.StackRnn.LastRun
public import proofs.«01_k».proof.Proof.StackRnn.Arm

@[expose] public section

set_option maxRecDepth 16384

noncomputable section

namespace Cert.StackRnn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Last

variable (c : Dev nD) (t : Fin cfg0.N) (h0 : ¬t.val % 1024 = 0) (h1 : t.val % 1024 = 1023)
  (v c' : Vec F S1x256x512 .f32) (s : Vec F S64x256x128 .f32)

/-- The named run at the last point, over the point's blocks. -/
abbrev lastAt := lastRun c (grid0.coords t) (ms0_0 t) (hs0_0 t) (ms0_1 t) (hs0_1 t) (ms0_2 t) (hs0_2 t) (ms0_3 t) (hs0_3 t)
  (ms0_4 t) (hs0_4 t) (ms0_5 t) (hs0_5 t) (ms0_6 t) (hs0_6 t) (ms0_7 t) (hs0_7 t) (ms0_8 t) (hs0_8 t) (ms0_9 t) (hs0_9 t)
  (ms0_10 t) (hs0_10 t) (ms0_11 t) (hs0_11 t) scM0_0 (Memref.isWhole_whole _) scM0_1 (Memref.isWhole_whole _)
  (fun h => h0 ((hcond0_0 t).mp h)) ((hcond0_1 t).mpr h1)
  (iblk m c 0 t) (iblk m c 1 t) (iblk m c 2 t) (iblk m c 3 t) (iblk m c 4 t) (iblk m c 5 t) (iblk m c 6 t) (iblk m c 7 t)
  (iblk m c 8 t) v c' s (V m c main_v27)

/-- The generated run there. -/
abbrev genLastAt := kernelRun0_C c (grid0.coords t) (ms0_0 t) (hs0_0 t) (ms0_1 t) (hs0_1 t) (ms0_2 t) (hs0_2 t) (ms0_3 t) (hs0_3 t)
  (ms0_4 t) (hs0_4 t) (ms0_5 t) (hs0_5 t) (ms0_6 t) (hs0_6 t) (ms0_7 t) (hs0_7 t) (ms0_8 t) (hs0_8 t) (ms0_9 t) (hs0_9 t)
  (ms0_10 t) (hs0_10 t) (ms0_11 t) (hs0_11 t) scM0_0 (Memref.isWhole_whole _) scM0_1 (Memref.isWhole_whole _)
  (fun h => h0 ((hcond0_0 t).mp h)) ((hcond0_1 t).mpr h1)
  (iblk m c 0 t) (iblk m c 1 t) (iblk m c 2 t) (iblk m c 3 t) (iblk m c 4 t) (iblk m c 5 t) (iblk m c 6 t) (iblk m c 7 t)
  (iblk m c 8 t) v c' s (V m c main_v27)

/-- The two runs store the same pieces. -/
theorem lastAt_pieces : (lastAt m c t h0 h1 v c' s).1 = (genLastAt m c t h0 h1 v c' s).1
    ∧ (lastAt m c t h0 h1 v c' s).2.1 = (genLastAt m c t h0 h1 v c' s).2.1
    ∧ (lastAt m c t h0 h1 v c' s).2.2.1 = (genLastAt m c t h0 h1 v c' s).2.2.1
    ∧ (lastAt m c t h0 h1 v c' s).2.2.2.1 = (genLastAt m c t h0 h1 v c' s).2.2.2.1 := by
  refine ⟨?_, ?_, ?_, ?_⟩ <;> sl_kernel_rfl

set_option maxHeartbeats 2000000 in
/-- The words the last point's transfer moves are the stack that point leaves. -/
theorem lastAt_moved (p) (hp : p = outsAt0 m c (t.val - 1) (Nat.lt_of_le_of_lt (Nat.sub_le _ _) t.isLt)) :
    (lastAt m c t h0 h1 p.2.1 p.2.2.1 p.2.2.2).2.2.2.2.2.1 = (outsAt0 m c t.val t.isLt).2.2.2 := by
  subst hp
  refine Eq.trans ?_ (congrArg (fun z => z.2.2.2) (outsAt0_C m c t h0 h1)).symm
  dsimp only
  generalize (outsAt0 m c (t.val - 1) (Nat.lt_of_le_of_lt (Nat.sub_le _ _) t.isLt)) = p
  unfold sout0_C_0
  refine Eq.trans ?_ (View.read_writes_of_cover scM0_0.view ((Memref.isWhole_whole _).unread p.2.2.2) _ _ _ (scover0_C_0 c _ _ _ _ _ _ _ _ _ _ _ _ _ _ _ _ _ _ _ _ _ _ _ _ _ _ _ _ _ _ _ _ _ _ _ _ _ _ _ _ _ _ _ _))
  sl_kernel_rfl

set_option maxHeartbeats 1000000 in
/-- What the pieces of the named run leave: the last point's contents. -/
theorem lastAt_leaves (p) (hp : p = outsAt0 m c (t.val - 1) (Nat.lt_of_le_of_lt (Nat.sub_le _ _) t.isLt)) :
    (∀ f, (ms0_9 t).view.read (Elt F) ((ms0_9 t).view.writes (Elt F) f (lastAt m c t h0 h1 p.2.1 p.2.2.1 p.2.2.2).1) = (outsAt0 m c t.val t.isLt).1)
    ∧ (∀ f, (ms0_10 t).view.read (Elt F) ((ms0_10 t).view.writes (Elt F) f (lastAt m c t h0 h1 p.2.1 p.2.2.1 p.2.2.2).2.1) = (outsAt0 m c t.val t.isLt).2.1)
    ∧ (∀ f, (ms0_11 t).view.read (Elt F) ((ms0_11 t).view.writes (Elt F) f (lastAt m c t h0 h1 p.2.1 p.2.2.1 p.2.2.2).2.2.1) = (outsAt0 m c t.val t.isLt).2.2.1)
    ∧ (∀ f, scM0_0.view.read (Elt F) (scM0_0.view.writes (Elt F) f (lastAt m c t h0 h1 p.2.1 p.2.2.1 p.2.2.2).2.2.2.1) = (outsAt0 m c t.val t.isLt).2.2.2) := by
  subst hp
  obtain ⟨E9, E10, E11, ES⟩ := lastAt_pieces m c t h0 h1 (outsAt0 m c (t.val - 1) (Nat.lt_of_le_of_lt (Nat.sub_le _ _) t.isLt)).2.1
    (outsAt0 m c (t.val - 1) (Nat.lt_of_le_of_lt (Nat.sub_le _ _) t.isLt)).2.2.1 (outsAt0 m c (t.val - 1) (Nat.lt_of_le_of_lt (Nat.sub_le _ _) t.isLt)).2.2.2
  refine ⟨?_, ?_, ?_, ?_⟩
  · intro f
    rw [E9]
    refine Eq.trans ?_ (congrArg (fun z => z.1) (outsAt0_C m c t h0 h1)).symm
    dsimp only
    unfold out0_C_9
    exact View.read_writes_of_cover _ _ _ _ _ (cover0_C_9 c _ _ _ _ _ _ _ _ _ _ _ _ _ _ _ _ _ _ _ _ _ _ _ _ _ _ _ _ _ _ _ _ _ _ _ _ _ _ _ _ _ _ _ _)
  · intro f
    rw [E10]
    refine Eq.trans ?_ (congrArg (fun z => z.2.1) (outsAt0_C m c t h0 h1)).symm
    dsimp only
    unfold out0_C_10
    exact View.read_writes_of_cover _ _ _ _ _ (cover0_C_10 c _ _ _ _ _ _ _ _ _ _ _ _ _ _ _ _ _ _ _ _ _ _ _ _ _ _ _ _ _ _ _ _ _ _ _ _ _ _ _ _ _ _ _ _)
  · intro f
    rw [E11]
    refine Eq.trans ?_ (congrArg (fun z => z.2.2.1) (outsAt0_C m c t h0 h1)).symm
    dsimp only
    unfold out0_C_11
    exact View.read_writes_of_cover _ _ _ _ _ (cover0_C_11 c _ _ _ _ _ _ _ _ _ _ _ _ _ _ _ _ _ _ _ _ _ _ _ _ _ _ _ _ _ _ _ _ _ _ _ _ _ _ _ _ _ _ _ _)
  · intro f
    rw [ES]
    refine Eq.trans ?_ (congrArg (fun z => z.2.2.2) (outsAt0_C m c t h0 h1)).symm
    dsimp only
    unfold sout0_C_0
    exact View.read_writes_of_cover _ _ _ _ _ (scover0_C_0 c _ _ _ _ _ _ _ _ _ _ _ _ _ _ _ _ _ _ _ _ _ _ _ _ _ _ _ _ _ _ _ _ _ _ _ _ _ _ _ _ _ _ _ _)

end Last

/-- The last point's stack, at a position that is the last. -/
theorem last_outs (c : Dev nD) (n : ℕ) (hn : n < cfg0.N) (h : n = 1023) : (outsAt0 m c n hn).2.2.2 = lastStack m c := by
  subst h
  unfold lastStack
  exact congrArg (fun z : Vec F S1x256x512 .f32 × Vec F S1x256x512 .f32 × Vec F S1x256x512 .f32 × Vec F S64x256x128 .f32 => z.2.2.2)
    (Eq.refl (outsAt0 m c 1023 hn))

/-- The carried stack before a point that is not the first: what the point before left. -/
theorem carried_pos (c : Dev nD) (n : ℕ) (h : n ≤ cfg0.N) (hz : n ≠ 0) :
    carried m c n h = owns (c : Thread nD τ) scM0_0 fullShare (outsAt0 m c (n - 1) (by omega)).2.2.2 := by
  cases n with
  | zero => exact absurd rfl hz
  | succ n => rfl

set_option maxHeartbeats 4000000 in
/-- The library's body obligation for the named proof data: `arm` at each of the three kinds of point. -/
theorem named_body (c : Dev nD) : BodyObligation (namedDats (F := F) m 0 c) (defs₀ (F := F)) Variants.none () Set.univ := fun t => by
  have hN : t.val < 1024 := lt_of_lt_of_eq t.isLt (show cfg0.N = 1024 from N_0)
  rw [bigSep_W0, bigSep_W0, defs₀_row]
  refine triple_restated ?_ rfl .rfl fun _ => .rfl
  by_cases h0 : t.val % 1024 = 0
  · have h1 : ¬t.val % 1024 = 1023 := by omega
    refine arm m c t (P10 := iprop(∃ d, owns (c : Thread nD τ) (ms0_10 t) fullShare d)) (P11 := iprop(∃ d, owns (c : Thread nD τ) (ms0_11 t) fullShare d))
      (S := iprop(∃ d, owns (c : Thread nD τ) scM0_0 fullShare d)) (O := anyOut c)
      (fun W K => (kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (V m c main_v27)).2.2.2.2.2 W K)
      ?_ ?_ ?_ ?_ ?_ ?_ ?_ ?_
    · iintro ⟨%d, H⟩; iexists _; iexact H
    · iintro ⟨%d, H⟩; iexists _; iexact H
    · rw [show carried m c t.val (Nat.le_of_lt t.isLt) = iprop(∃ d, owns (c : Thread nD τ) scM0_0 fullShare d) from by
        obtain ⟨n, hn⟩ := t
        obtain rfl : n = 0 := by dsimp only at h0 hN; omega
        rfl]
    · intro f; refine Eq.trans ?_ (congrArg (fun z => z.1) (outsAt0_A m c t h0 h1)).symm; dsimp only; unfold out0_A_9; exact View.read_writes_of_cover _ _ _ _ _ (cover0_A_9 c _ _ _ _ _ _ _ _ _ _ _ _ _ _ _ _ _ _ _ _ _ _ _ _ _ _ _ _ _ _ _ _ _ _ _ _ _ _ _ _ _)
    · intro f; refine Eq.trans ?_ (congrArg (fun z => z.2.1) (outsAt0_A m c t h0 h1)).symm; dsimp only; unfold out0_A_10; exact View.read_writes_of_cover _ _ _ _ _ (cover0_A_10 c _ _ _ _ _ _ _ _ _ _ _ _ _ _ _ _ _ _ _ _ _ _ _ _ _ _ _ _ _ _ _ _ _ _ _ _ _ _ _ _ _)
    · intro f; refine Eq.trans ?_ (congrArg (fun z => z.2.2.1) (outsAt0_A m c t h0 h1)).symm; dsimp only; unfold out0_A_11; exact View.read_writes_of_cover _ _ _ _ _ (cover0_A_11 c _ _ _ _ _ _ _ _ _ _ _ _ _ _ _ _ _ _ _ _ _ _ _ _ _ _ _ _ _ _ _ _ _ _ _ _ _ _ _ _ _)
    · intro f; refine Eq.trans ?_ (congrArg (fun z => z.2.2.2) (outsAt0_A m c t h0 h1)).symm; dsimp only; unfold sout0_A_0; exact View.read_writes_of_cover _ _ _ _ _ (scover0_A_0 c _ _ _ _ _ _ _ _ _ _ _ _ _ _ _ _ _ _ _ _ _ _ _ _ _ _ _ _ _ _ _ _ _ _ _ _ _ _ _ _ _)
    · rw [if_neg (by omega)]
  · have hz : t.val ≠ 0 := fun h => h0 (by rw [h])
    by_cases h1 : t.val % 1024 = 1023
    · obtain ⟨p, hp⟩ : ∃ p, p = outsAt0 m c (t.val - 1) (Nat.lt_of_le_of_lt (Nat.sub_le _ _) t.isLt) := ⟨_, rfl⟩
      have e10 : ∀ d, (dats m 0 c).before 10 t d = p.2.1 := fun d => (before0_10_C m c t h0 h1 d).trans (congrArg (fun z => z.2.1) hp.symm)
      have e11 : ∀ d, (dats m 0 c).before 11 t d = p.2.2.1 := fun d => (before0_11_C m c t h0 h1 d).trans (congrArg (fun z => z.2.2.1) hp.symm)
      have eS : carried m c t.val (Nat.le_of_lt t.isLt) = owns (c : Thread nD τ) scM0_0 fullShare p.2.2.2 :=
        (carried_pos m c _ _ hz).trans (congrArg (fun z => owns (c : Thread nD τ) scM0_0 fullShare z.2.2.2) hp.symm)
      have eN : (outsAt0 m c t.val t.isLt).2.2.2 = lastStack m c := last_outs m c t.val t.isLt (by omega)
      have eL : t.val + 1 = 1024 := by omega
      have D := (lastAt_moved m c t h0 h1 p hp).trans eN
      obtain ⟨g9, g10, g11, gS⟩ := lastAt_leaves m c t h0 h1 p hp
      exact arm m c t (P10 := owns (c : Thread nD τ) (ms0_10 t) fullShare p.2.1) (P11 := owns (c : Thread nD τ) (ms0_11 t) fullShare p.2.2.1)
        (S := owns (c : Thread nD τ) scM0_0 fullShare p.2.2.2) (O := outReads c (lastAt m c t h0 h1 p.2.1 p.2.2.1 p.2.2.2).2.2.2.2.2.1)
        (fun W K => (lastAt m c t h0 h1 p.2.1 p.2.2.1 p.2.2.2).2.2.2.2.2.2 W K)
        (by simp only [e10]; iintro ⟨%d, H⟩; iexact H) (by simp only [e11]; iintro ⟨%d, H⟩; iexact H) (Entails.of_eq eS)
        g9 g10 g11 gS (by rw [if_pos eL, D])
    · obtain ⟨p, hp⟩ : ∃ p, p = outsAt0 m c (t.val - 1) (Nat.lt_of_le_of_lt (Nat.sub_le _ _) t.isLt) := ⟨_, rfl⟩
      refine arm m c t (P10 := owns (c : Thread nD τ) (ms0_10 t) fullShare p.2.1) (P11 := owns (c : Thread nD τ) (ms0_11 t) fullShare p.2.2.1)
        (S := owns (c : Thread nD τ) scM0_0 fullShare p.2.2.2) (O := anyOut c)
        (fun W K => (kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) p.2.1 p.2.2.1 p.2.2.2 (V m c main_v27)).2.2.2.2.2 W K)
        ?_ ?_ ?_ ?_ ?_ ?_ ?_ ?_
      · simp only [before0_10_B m c t h0 h1, hp]; iintro ⟨%d, H⟩; iexact H
      · simp only [before0_11_B m c t h0 h1, hp]; iintro ⟨%d, H⟩; iexact H
      · rw [carried_pos m c _ _ hz, hp]
      · intro f; subst hp; refine Eq.trans ?_ (congrArg (fun z => z.1) (outsAt0_B m c t h0 h1)).symm; dsimp only; unfold out0_B_9; exact View.read_writes_of_cover _ _ _ _ _ (cover0_B_9 c _ _ _ _ _ _ _ _ _ _ _ _ _ _ _ _ _ _ _ _ _ _ _ _ _ _ _ _ _ _ _ _ _ _ _ _ _ _ _ _ _ _ _ _)
      · intro f; subst hp; refine Eq.trans ?_ (congrArg (fun z => z.2.1) (outsAt0_B m c t h0 h1)).symm; dsimp only; unfold out0_B_10; exact View.read_writes_of_cover _ _ _ _ _ (cover0_B_10 c _ _ _ _ _ _ _ _ _ _ _ _ _ _ _ _ _ _ _ _ _ _ _ _ _ _ _ _ _ _ _ _ _ _ _ _ _ _ _ _ _ _ _ _)
      · intro f; subst hp; refine Eq.trans ?_ (congrArg (fun z => z.2.2.1) (outsAt0_B m c t h0 h1)).symm; dsimp only; unfold out0_B_11; exact View.read_writes_of_cover _ _ _ _ _ (cover0_B_11 c _ _ _ _ _ _ _ _ _ _ _ _ _ _ _ _ _ _ _ _ _ _ _ _ _ _ _ _ _ _ _ _ _ _ _ _ _ _ _ _ _ _ _ _)
      · intro f; subst hp; refine Eq.trans ?_ (congrArg (fun z => z.2.2.2) (outsAt0_B m c t h0 h1)).symm; dsimp only; unfold sout0_B_0; exact View.read_writes_of_cover _ _ _ _ _ (scover0_B_0 c _ _ _ _ _ _ _ _ _ _ _ _ _ _ _ _ _ _ _ _ _ _ _ _ _ _ _ _ _ _ _ _ _ _ _ _ _ _ _ _ _ _ _ _)
      · rw [if_neg (by omega)]

end Cert.StackRnn

end
-- ==== Proof.StackRnn.NamedRun.lean ====
/-
  The kernel's launch with its fourth result named: what every final state holds, in terms of what the points leave.
-/
module

public import proofs.«01_k».proof.Proof.StackRnn.NamedBody

@[expose] public section

set_option maxRecDepth 16384

noncomputable section

namespace Cert.StackRnn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The contents the launch leaves in the buffers the body fills: the one such buffer, reading the last stack. -/
def filled (c : Dev nD) (b : Ref sig .tc) : Buf (Elt F) ((c : Thread nD τ).loc b) :=
  if h : b = main_v29_3 then h ▸ ((Memref.isWhole_whole main_v29_3).unread (lastStack m c) : Buf (Elt F) ((c : Thread nD τ).loc main_v29_3)) else V m c b

theorem filled_eq (c : Dev nD) : filled m c main_v29_3 = ((Memref.isWhole_whole main_v29_3).unread (lastStack m c) : Buf (Elt F) ((c : Thread nD τ).loc main_v29_3)) := by
  unfold filled
  rw [dif_pos rfl]

/-- The buffers the body fills, listed: the one. -/
theorem filledPts_eq (c : Dev nD) (G : (c : Dev nD) → (b : Ref sig .tc) → Buf (Elt F) ((c : Thread nD τ).loc b)) :
    (bigSep R0 (fun b => ((c : Thread nD τ).loc b) ↦{fullShare} G c b) : sProp 𝕄) = iprop(hbPt0 c hbM0_1 (G c main_v29_3)) := by
  rw [BI.bigSep_eq_bigSepL_of_eq [main_v29_3] (by decide) (by decide)]; rfl

/-- The launch's conjuncts, listed. -/
theorem handed_eq (c : Dev nD) (G : (c : Dev nD) → (b : Ref sig .tc) → Buf (Elt F) ((c : Thread nD τ).loc b)) :
    (ΦDRV osem0 spec0 H0 R0 (V m) G c : sProp 𝕄)
      = inv m c iprop(∃ d, owns (c : Thread nD τ) scM0_0 fullShare d) iprop(hbPt0 c hbM0_1 (G c main_v29_3)) := by
  unfold ΦDRV inv
  rw [scopedRest0_eq, ownSems00_eq, hbmPts0_eq, filledPts_eq]
  simp only [scM0_0, scM0_1, owns_whole]
  try rfl

/-- The invariant is entered from what the launch hands over. -/
theorem named_in (c : Dev nD) : ΦDRV osem0 spec0 H0 R0 (V m) (V m) c ⊢ (namedDats m 0 c).Φ 0 := by
  rw [show (namedDats m 0 c).Φ 0 = inv m c iprop(∃ d, owns (c : Thread nD τ) scM0_0 fullShare d) (anyOut c) from rfl, handed_eq]
  unfold inv anyOut
  iintro ⟨Hs, Hq, Hh, Ho⟩
  isplitl [Hs]; · iexact Hs
  isplitl [Hq]; · iexact Hq
  isplitl [Hh]; · iexact Hh
  iexists _
  iexact Ho

/-- The invariant after the last point. -/
theorem named_last (c : Dev nD) : (namedDats m 0 c).Φ (Fin.last cfg0.N)
    = inv m c (owns (c : Thread nD τ) scM0_0 fullShare (outsAt0 m c (cfg0.N - 1) (by decide +kernel)).2.2.2) (outReads c (lastStack m c)) := by
  have e : (namedDats m 0 c).Φ (Fin.last cfg0.N) = inv m c (carried m c cfg0.N le_rfl) (if cfg0.N = 1024 then outReads c (lastStack m c) else anyOut c) := rfl
  rw [e, if_pos (show cfg0.N = 1024 from N_0), carried_pos m c _ _ (by rw [show cfg0.N = 1024 from N_0]; decide)]

/-- After the last point it gives back what the launch takes: the filled buffer at the last stack. -/
theorem named_out (c : Dev nD) : (namedDats m 0 c).Φ (Fin.last cfg0.N) ⊢ ΦDRV osem0 spec0 H0 R0 (V m) (filled m) c := by
  rw [named_last, handed_eq, filled_eq]
  generalize lastStack m c = D
  generalize (outsAt0 m c (cfg0.N - 1) _).2.2.2 = E
  unfold inv outReads
  iintro ⟨⟨Hs, Ht⟩, Hq, Hh, ⟨%f, %hf, Ho⟩⟩
  obtain rfl := (Memref.isWhole_whole main_v29_3).eq_unread hf
  isplitl [Hs Ht]
  · isplitl [Hs]
    · iexists _; iexact Hs
    iexact Ht
  isplitl [Hq]; · iexact Hq
  isplitl [Hh]; · iexact Hh
  iexact Ho

set_option backward.isDefEq.respectTransparency.types false in
set_option maxHeartbeats 800000 in
/-- The launch: every final state has each window's array at what the points leave there, and every other buffer as the host line after
    the call leaves it, that line run over those arrays and over the filled buffer at the last stack. -/
theorem named_run : θ_run defs (onTc (τ := τ) (main (F := F))) (s₀ m ρ) (fun r => ∀ c : Dev nD,
    (∀ w, r.2.mem ((spec0 w).arr.view.loc (c : Thread nD τ)) = (namedDats m 0 c).arrAt w cfg0.N)
      ∧ ∀ b ∈ restRefs sig spec0, r.2.mem ((c : Thread nD τ).loc b)
          = StableHlo.after [hostOps1].flatten (withArrays spec0 c (withR (V0 m c) R0 c (filled m c)) fun w => (namedDats m 0 c).arrAt w cfg0.N) (Proc.devRef .tc b)) :=
  Pipeline.θ_run_frame_dmaR_aroundV (Q' := _) cfgs (namedDats m) (0 : Fin 1) launch0 osem0 defs₀ Variants.none ownSemFacts0 H0 R0 H0_sub R0_sub m ρ main
    (hbody := fun c => (named_body m c).loose) (hshare := fun c => (namedDats m 0 c).share_full fun _ => rfl)
    (howed := fun _ _ => rfl) (V₀ := V0 m) (opss := [hostOps1]) (hsub := sfx_sub) (hfresh := sfx_fresh) (hkeep := sfx_keeps)
    (G := filled m) (hmain := hmain m Variants.none) (hA := A_eq m) (hin := named_in m) (hout := named_out m)

end Cert.StackRnn

end
-- ==== Proof.StackRnn.Spec.lean ====
/-
  One step of the stack-augmented LSTM cell for ONE row of the batch, over the extended reals. Both programs are read as this
  step: the kernel at each point of its grid, the reference at each trip of its loop.
-/
module

public import Idealize.ShloMosaic.PureOps.Ideal

@[expose] public section

noncomputable section

namespace Cert.StackRnn

open Idealize.ShloMosaic

/-- The parameters of the cell, by the coordinates the reference's arrays have. -/
structure Params where
  /-- Stack-action weights and bias: push, pop, no-op. -/
  aw : Fin 3 → Fin 512 → EReal
  ab : Fin 3 → EReal
  /-- Weights and bias of the pushed word. -/
  dw : Fin 128 → Fin 512 → EReal
  db : Fin 128 → EReal
  /-- Gate weights for the input row beside the stack's top, and for the hidden row, with their biases. -/
  wi : Fin 2048 → Fin 384 → EReal
  wh : Fin 2048 → Fin 512 → EReal
  bi : Fin 2048 → EReal
  bh : Fin 2048 → EReal

/-- What one row of the batch carries from step to step: hidden row, cell row, stack. -/
structure RowState where
  h : Fin 512 → EReal
  c : Fin 512 → EReal
  s : Fin 64 → Fin 128 → EReal

/-- The greatest of three values. -/
def top3 (f : Fin 3 → EReal) : EReal := max (f 0) (max (f 1) (f 2))

variable (W : Params) (x : Fin 256 → EReal) (st : RowState)

/-- Score of stack action `a` before the softmax. -/
def logit (h : Fin 512 → EReal) (a : Fin 3) : EReal := ∑ k, h k * W.aw a k + W.ab a

/-- The softmax's numerator of action `a`, shifted by the greatest score. -/
def expo (h : Fin 512 → EReal) (a : Fin 3) : EReal := Ideal.exp (logit W h a - top3 (logit W h))

/-- The softmax weight of action `a`. -/
def action (h : Fin 512 → EReal) (a : Fin 3) : EReal := Ideal.div (expo W h a) (∑ b, expo W h b)

/-- The word that a push puts on the stack. -/
def word (h : Fin 512 → EReal) (l : Fin 128) : EReal := Ideal.tanh (∑ k, h k * W.dw l k + W.db l)

/-- What stands above slot `j`: the pushed word above the top slot. -/
def above (j : Fin 64) (l : Fin 128) : EReal :=
  if h : j.val < 1 then word W st.h l else st.s ⟨j.val - 1, by omega⟩ l

/-- What stands below slot `j`: zero below the last slot. -/
def below (j : Fin 64) (l : Fin 128) : EReal :=
  if h : j.val < 63 then st.s ⟨1 + j.val, by omega⟩ l else 0

/-- The stack after the soft no-op, push and pop. -/
def stackNext (j : Fin 64) (l : Fin 128) : EReal :=
  action W st.h 2 * st.s j l + action W st.h 0 * above W st j l + action W st.h 1 * below st j l

/-- The gates' sums: input row, top of the new stack and hidden row, each against its weights, with the two biases. -/
def gate (g : Fin 2048) : EReal :=
  ∑ k : Fin 256, x k * W.wi g ⟨k.val, by omega⟩ + ∑ l : Fin 128, stackNext W st 0 l * W.wi g ⟨256 + l.val, by omega⟩
    + W.bi g + ∑ k, st.h k * W.wh g k + W.bh g

/-- The logistic function, as the reference spells it. -/
def sigm (z : EReal) : EReal := Ideal.div 1 (1 + Ideal.exp (-z))

/-- The cell row after the step. -/
def cellNext (k : Fin 512) : EReal :=
  sigm (gate W x st ⟨512 + k.val, by omega⟩) * st.c k
    + sigm (gate W x st ⟨k.val, by omega⟩) * Ideal.tanh (gate W x st ⟨1024 + k.val, by omega⟩)

/-- The hidden row after the step. -/
def hidNext (k : Fin 512) : EReal :=
  sigm (gate W x st ⟨1536 + k.val, by omega⟩) * Ideal.tanh (cellNext W x st k)

/-- The row's state after the step. -/
def rowNext : RowState := ⟨hidNext W x st, cellNext W x st, stackNext W st⟩

/-- A row's state after `n` steps over the input rows `xs`. -/
def rowAfter (xs : ℕ → Fin 256 → EReal) (st₀ : RowState) : ℕ → RowState
  | 0 => st₀
  | n + 1 => rowNext W (xs n) (rowAfter xs st₀ n)

/-- Over a set of places, the running maximum started at −∞ is any upper bound of the values that one of them attains. -/
theorem fold_max_eq {ι : Type*} (s : Finset ι) (v : ι → EReal) (m : EReal) (hle : ∀ i ∈ s, v i ≤ m) (hat : ∃ i ∈ s, m ≤ v i) :
    s.fold max ⊥ v = m :=
  le_antisymm ((Finset.fold_max_le m).mpr ⟨bot_le, hle⟩) ((Finset.le_fold_max m).mpr (Or.inr hat))

/-- Each of three values is at most the greatest. -/
theorem le_top3 (f : Fin 3 → EReal) (a : Fin 3) : f a ≤ top3 f := by
  unfold top3; fin_cases a <;> simp

/-- One of three values is the greatest. -/
theorem exists_top3 (f : Fin 3 → EReal) : ∃ a, top3 f ≤ f a := by
  unfold top3
  rcases le_total (f 1) (f 2) with h | h
  · rcases le_total (f 0) (f 2) with h' | h'
    · exact ⟨2, by simp [h, h']⟩
    · exact ⟨0, by simp [h']; exact h.trans h'⟩
  · rcases le_total (f 0) (f 1) with h' | h'
    · exact ⟨1, by simp [h, h']⟩
    · exact ⟨0, by simp [h']; exact h.trans h'⟩

end Cert.StackRnn
-- ==== Proof.StackRnn.Payloads.lean ====
/-
  What the kernel computes between its loads and its stores, read at an index: the cell's step (Spec.lean) of each row of the batch.
-/
module

public import proofs.«01_k».proof.Proof.Gen.KernelIdeal.Skeleton
public import proofs.«01_k».proof.Proof.StackRnn.Spec
public import Idealize.ShloMosaic.Lib.Pointwise

@[expose] public section
set_option maxRecDepth 16384
noncomputable section
namespace Cert.StackRnn
open Idealize.ShloMosaic Idealize.ShloMosaic.TcCoe
open Cert.KernelIdeal Cert.KernelIdeal.Gen

/-- Column `l` of the two narrow linear layers side by side: the word's columns, the three actions', then none. -/
def padW (W : Params) (k : Fin 512) (l : ℕ) : EReal :=
  if h : l < 128 then W.dw ⟨l, h⟩ k else if h : l - 128 < 3 then W.aw ⟨l - 128, h⟩ k else 0

/-- The two layers' biases side by side: −∞ on the columns of no action. -/
def padB (W : Params) (l : ℕ) : EReal :=
  if h : l < 128 then W.db ⟨l, h⟩ else if h : l - 128 < 3 then W.ab ⟨l - 128, h⟩ else ⊥

/-- The six arrays of weights that the kernel reads hold the cell's parameters. -/
structure Holds (W : Params) (ad : Vec Ideal S512x256 .bf16) (adb : Vec Ideal S1x256 .f32) (wx : Vec Ideal S256x2048 .bf16)
    (ws : Vec Ideal S128x2048 .bf16) (wh : Vec Ideal S512x2048 .bf16) (bias : Vec Ideal S1x2048 .f32) : Prop where
  ad : ∀ (k : Fin 512) (l : Fin 256), ad (ix2 k l) = padW W k l.val
  adb : ∀ (l : Fin 256), adb (ix2 0 l) = padB W l.val
  wx : ∀ (k : Fin 256) (g : Fin 2048), wx (ix2 k g) = W.wi g ⟨k.val, by omega⟩
  ws : ∀ (l : Fin 128) (g : Fin 2048), ws (ix2 l g) = W.wi g ⟨256 + l.val, by omega⟩
  wh : ∀ (k : Fin 512) (g : Fin 2048), wh (ix2 k g) = W.wh g k
  bias : ∀ g : Fin 2048, bias (ix2 0 g) = W.bi g + W.bh g

/-- Row `r` of a hidden or cell block. -/
def wide (v : Vec Ideal S1x256x512 .f32) (r : Fin 256) (k : Fin 512) : EReal := v (ix3 0 r k)

/-- Row `r` of an input block. -/
def inRow (x : Vec Ideal S1x256x256 .bf16) (r : Fin 256) (k : Fin 256) : EReal := x (ix3 0 r k)

variable {W : Params} {ad : Vec Ideal S512x256 .bf16} {adb : Vec Ideal S1x256 .f32} {wx : Vec Ideal S256x2048 .bf16}
  {ws : Vec Ideal S128x2048 .bf16} {wh : Vec Ideal S512x2048 .bf16} {bias : Vec Ideal S1x2048 .f32}
  (H : Holds W ad adb wx ws wh bias) (v : Vec Ideal S1x256x512 .f32)

include H in
/-- The narrow layers' sums, at a column. -/
theorem pay_ad (r l : Fin 256) : k0_pay6 v ad adb (ix2 r l) = ∑ k, wide v r k * padW W k l.val + padB W l.val := by
  simp only [← H.ad, ← H.adb, wide]
  unfold k0_pay6 k0_pay5
  pointwise

include H in
/-- On a column of an action, its score; on the columns after, −∞. -/
theorem pay_score (r : Fin 256) (l : Fin 128) (hl : 128 + l.val < 256) :
    k0_pay6 v ad adb (ix2 r ⟨128 + l.val, hl⟩) = if h : l.val < 3 then logit W (wide v r) ⟨l.val, h⟩ else ⊥ := by
  rw [pay_ad H]
  unfold padW padB
  have h0 : ¬ 128 + l.val < 128 := by omega
  simp only [h0, dite_false, Nat.add_sub_cancel_left]
  split
  · rfl
  · exact EReal.add_bot _

include H in
/-- The word to push. -/
theorem pay_word (r : Fin 256) (l : Fin 128) : k0_pay7 v ad adb (ix2 r l) = word W (wide v r) l := by
  unfold k0_pay7
  pointwise
  rw [pay_ad H]
  have h0 : 0 + l.val < 128 := by omega
  simp only [padW, padB, l.isLt, dite_true]
  rfl

/-- A sum over 128 lanes whose lanes after the third are zero. -/
theorem sum_three (f : Fin 128 → EReal) (e : Fin 3 → EReal) (h : ∀ l : Fin 128, f l = if h : l.val < 3 then e ⟨l.val, h⟩ else 0) :
    ∑ l, f l = ∑ a, e a := by
  rw [show (∑ l, f l) = ∑ l : Fin (3 + 125), f l from rfl, Fin.sum_univ_add,
    Finset.sum_eq_zero (s := Finset.univ) (f := fun i : Fin 125 => f (Fin.natAdd 3 i)), add_zero]
  · exact Finset.sum_congr rfl fun a _ => (h (Fin.castAdd 125 a)).trans (dif_pos a.isLt)
  · exact fun i _ => (h (Fin.natAdd 3 i)).trans (dif_neg (by simp))

include H in
/-- The softmax over the 128 lanes is, on the first three, the softmax over the actions. -/
theorem pay_action (r : Fin 256) (a : Fin 3) : k0_pay8 v ad adb (ix2 r ⟨a.val, by omega⟩) = action W (wide v r) a := by
  unfold k0_pay8
  pointwise
  have hb : Ideal.ofBits FTy.f32 4286578688#32 = (⊥ : EReal) := by simp [Ideal.ofBits, Ideal.ieee]
  have hs : ∀ (l : Fin 128) (hl : 128 + l.val < 256), k0_pay6 v ad adb (ix2 r ⟨128 + l.val, hl⟩)
      = if h : l.val < 3 then logit W (wide v r) ⟨l.val, h⟩ else ⊥ := fun l hl => pay_score H v r l hl
  rw [hb, fold_max_eq _ _ (top3 (logit W (wide v r)))]
  · refine congrArg₂ Ideal.div ?_ (sum_three _ _ fun l => ?_)
    · exact congrArg (fun z => Ideal.exp (z - _)) ((hs ⟨a.val, by omega⟩ _).trans (dif_pos a.isLt))
    · rw [hs]
      split
      · rfl
      · rw [EReal.bot_sub]; exact Ideal.exp_bot
  · intro l _
    rw [hs]
    split
    · exact le_top3 _ _
    · exact bot_le
  · obtain ⟨b, hb⟩ := exists_top3 (logit W (wide v r))
    exact ⟨⟨b.val, by omega⟩, Finset.mem_univ _, hb.trans (((hs ⟨b.val, by omega⟩ _).trans (dif_pos b.isLt)).ge)⟩

include H in
/-- The push's weight, -/
theorem pay_push (r : Fin 256) (z : Fin 1) : k0_pay9 v ad adb (ix2 r z) = action W (wide v r) 0 := by
  unfold k0_pay9
  pointwise
  exact (congrArg (k0_pay8 v ad adb) (congrArg (ix2 r) (Fin.ext (by simp)))).trans (pay_action H v r 0)

include H in
/-- the pop's -/
theorem pay_pop (r : Fin 256) (z : Fin 1) : k0_pay10 v ad adb (ix2 r z) = action W (wide v r) 1 := by
  unfold k0_pay10
  pointwise
  exact (congrArg (k0_pay8 v ad adb) (congrArg (ix2 r) (Fin.ext (by simp)))).trans (pay_action H v r 1)

include H in
/-- and the no-op's. -/
theorem pay_noop (r : Fin 256) (z : Fin 1) : k0_pay11 v ad adb (ix2 r z) = action W (wide v r) 2 := by
  unfold k0_pay11
  pointwise
  exact (congrArg (k0_pay8 v ad adb) (congrArg (ix2 r) (Fin.ext (by simp)))).trans (pay_action H v r 2)

/-- Row `r` of the batch, in a hidden block, a cell block and a stack. -/
def rowSt (v c : Vec Ideal S1x256x512 .f32) (s : Vec Ideal S64x256x128 .f32) (r : Fin 256) : RowState where
  h := wide v r
  c := wide c r
  s j l := s (ix3 j r l)

variable (c : Vec Ideal S1x256x512 .f32) (s : Vec Ideal S64x256x128 .f32) (x : Vec Ideal S1x256x256 .bf16)

include H in
/-- The gates' sums, from the new stack's top row. -/
theorem pay_gate (top : Vec Ideal S256x128 .f32) (r : Fin 256) (g : Fin 2048)
    (ht : ∀ l, top (ix2 r l) = stackNext W (rowSt v c s r) 0 l) :
    k0_pay164 top (k0_pay13 (k0_pay5 v) (k0_pay12 x wx) wh bias) ws (ix2 r g) = gate W (inRow x r) (rowSt v c s r) g := by
  unfold k0_pay164 k0_pay13 k0_pay12 k0_pay5
  pointwise
  simp only [ht, H.wx, H.ws, H.wh, H.bias]
  have swap : ∀ a h p q t : EReal, a + h + (p + q) + t = a + t + p + h + q := fun _ _ _ _ _ => by ac_rfl
  exact swap _ _ _ _ _

include H in
/-- The cell row after the step. -/
theorem pay_cell (top : Vec Ideal S256x128 .f32) (r : Fin 256) (k : Fin 512)
    (ht : ∀ l, top (ix2 r l) = stackNext W (rowSt v c s r) 0 l) :
    k0_pay165 (k0_pay4 c) top (k0_pay13 (k0_pay5 v) (k0_pay12 x wx) wh bias) ws (ix2 r k) = cellNext W (inRow x r) (rowSt v c s r) k := by
  unfold k0_pay165 k0_pay4
  pointwise
  simp only [pay_gate H v c s x top r _ ht]
  rfl

include H in
/-- The hidden row after the step. -/
theorem pay_hid (top : Vec Ideal S256x128 .f32) (r : Fin 256) (k : Fin 512)
    (ht : ∀ l, top (ix2 r l) = stackNext W (rowSt v c s r) 0 l) :
    k0_pay166 (k0_pay4 c) top (k0_pay13 (k0_pay5 v) (k0_pay12 x wx) wh bias) ws (ix2 r k) = hidNext W (inRow x r) (rowSt v c s r) k := by
  unfold k0_pay166
  pointwise
  simp only [pay_gate H v c s x top r _ ht, pay_cell H v c s x top r _ ht]
  rfl

end Cert.StackRnn
-- ==== Proof.StackRnn.HostEntry.lean ====
/- What the operations before the kernel leave in the arrays that the kernel reads, at an index: the cell's parameters,
   transposed, put side by side and padded, and the input sequence and the initial states. -/
module

public import proofs.«01_k».proof.Proof.Gen.KernelIdeal.Frame
public import proofs.«01_k».proof.Proof.StackRnn.Payloads
public import Idealize.ShloMosaic.Lib.StableHlo.ReadAt
public import Idealize.ShloMosaic.Lib.Routing.OpsSet
public import Idealize.ShloMosaic.Lib.Pipeline.ValueKit

@[expose] public section

set_option maxRecDepth 16384

noncomputable section

namespace Cert.StackRnn

open Idealize.ShloMosaic Idealize.ShloMosaic.TcCoe Idealize.ShloMosaic.StableHlo
open Idealize.ShloMosaic.Routing (shape1 shape2 resultIdx?_eq_some scatter_set_hit scatter_set_miss)
open Cert.KernelIdeal Cert.KernelIdeal.Gen

section Put

variable {α : Type} {R C : ℕ} {si u : Shape} {w : ℕ} (d : ScatterDims (shape2 R C) si u) (x : (shape2 R C).Idx → α) (idx : IVec si w)
  (upd : u.Idx → α) (row col : u.Idx → ℕ) (o : ℕ) (r : Fin R) (l : Fin C)
  (hr : ∀ k, d.start k idx 0 + (d.window k 0 : Int) = row k) (hl : ∀ k, d.start k idx 1 + (d.window k 1 : Int) = o + col k)

include hr hl

/-- Update `k` of a two-axis array lands at `(r, l)` just if its two coordinates say so. -/
theorem lands_iff (k : u.Idx) : d.resultIdx? k idx = some (ix2 r l) ↔ row k = r.val ∧ o + col k = l.val := by
  rw [resultIdx?_eq_some]
  constructor
  · intro h
    have h0 := h 0
    have h1 := h 1
    rw [hr] at h0
    rw [hl] at h1
    simp only [ix2] at h0 h1
    exact ⟨by exact_mod_cast h0, by exact_mod_cast h1⟩
  · rintro ⟨h0, h1⟩ a
    fin_cases a
    · exact (hr k).trans (by exact_mod_cast h0)
    · exact (hl k).trans (by exact_mod_cast h1)

/-- Columns put into an array from column `o` on: at a column among them, the update. -/
theorem put_hit (k : u.Idx) (hk : row k = r.val ∧ o + col k = l.val) (huniq : ∀ k', row k' = r.val → o + col k' = l.val → k' = k) :
    Host.scatter d (fun _ b => b) x idx upd (ix2 r l) = upd k :=
  scatter_set_hit d x idx upd _ _
    (fun k' h => congrArg upd (huniq k' ((lands_iff d idx row col o r l hr hl k').1 h).1 ((lands_iff d idx row col o r l hr hl k').1 h).2)) k
    ((lands_iff d idx row col o r l hr hl k).2 hk)

/-- At any other column, the array as it was. -/
theorem put_miss (hmiss : ∀ k, o + col k ≠ l.val) : Host.scatter d (fun _ b => b) x idx upd (ix2 r l) = x (ix2 r l) :=
  scatter_set_miss d x idx upd _ fun k h => hmiss k ((lands_iff d idx row col o r l hr hl k).1 h).2

end Put

/-- `N` columns put into the weights' array from column `o` on. -/
theorem put_cols {α : Type} {N : ℕ} (d : ScatterDims S512x256 S1 (shape2 512 N)) (x : S512x256.Idx → α) (idx : IVec S1 32)
    (upd : (shape2 512 N).Idx → α) (o : ℕ) (r : Fin 512) (l : Fin 256)
    (hr : ∀ k : (shape2 512 N).Idx, d.start k idx 0 + (d.window k 0 : Int) = (k 0).val)
    (hl : ∀ k : (shape2 512 N).Idx, d.start k idx 1 + (d.window k 1 : Int) = o + (k 1).val) :
    Host.scatter d (fun _ b => b) x idx upd (ix2 r l)
      = if h : o ≤ l.val ∧ l.val - o < N then upd (ix2 r ⟨l.val - o, h.2⟩) else x (ix2 r l) := by
  split
  · rename_i h
    refine put_hit d x idx upd (fun k => (k 0).val) (fun k => (k 1).val) o r l hr hl _ ⟨rfl, ?_⟩ fun k' h0 h1 => ?_
    · show o + (l.val - o) = l.val
      omega
    · funext a
      fin_cases a
      · exact Fin.ext h0
      · exact Fin.ext (by show (k' 1).val = l.val - o; have : o + (k' 1).val = l.val := h1; omega)
  · rename_i h
    refine put_miss d x idx upd (fun k => (k 0).val) (fun k => (k 1).val) o r l hr hl fun k h1 => h ?_
    have h2 : (k 1).val < N := (k 1).isLt
    have h3 : o + (k 1).val = l.val := h1
    omega

/-- `N` entries put into the one row of biases from column `o` on. -/
theorem put_row {α : Type} {N : ℕ} (d : ScatterDims S1x256 S2 (shape1 N)) (x : S1x256.Idx → α) (idx : IVec S2 32)
    (upd : (shape1 N).Idx → α) (o : ℕ) (l : Fin 256)
    (hr : ∀ k : (shape1 N).Idx, d.start k idx 0 + (d.window k 0 : Int) = (0 : ℕ))
    (hl : ∀ k : (shape1 N).Idx, d.start k idx 1 + (d.window k 1 : Int) = o + (k 0).val) :
    Host.scatter d (fun _ b => b) x idx upd (ix2 0 l)
      = if h : o ≤ l.val ∧ l.val - o < N then upd (ix1 ⟨l.val - o, h.2⟩) else x (ix2 0 l) := by
  split
  · rename_i h
    refine put_hit d x idx upd (fun _ => 0) (fun k => (k 0).val) o 0 l hr hl _ ⟨rfl, ?_⟩ fun k' _ h1 => ?_
    · show o + (l.val - o) = l.val
      omega
    · funext a
      fin_cases a
      exact Fin.ext (by show (k' 0).val = l.val - o; have : o + (k' 0).val = l.val := h1; omega)
  · rename_i h
    refine put_miss d x idx upd (fun _ => 0) (fun k => (k 0).val) o 0 l hr hl fun k h1 => h ?_
    have h2 : (k 0).val < N := (k 0).isLt
    have h3 : o + (k 0).val = l.val := h1
    omega

/-- Two one-entry arrays end to end. -/
theorem concat_two (X Y : IVec S1 32) (h : Shape.Concatenates (S1 :: S1 :: []) S2 0) :
    concatenate S2 0 [⟨S1, X⟩, ⟨S1, Y⟩] h (ix1 0) = X (ix1 0) ∧ concatenate S2 0 [⟨S1, X⟩, ⟨S1, Y⟩] h (ix1 1) = Y (ix1 0) := by
  constructor <;> (pointwise; try rfl)

/-- The action gate's biases start where the two-entry index says. -/
theorem start_action (k : S3.Idx) (i : IVec S2 32) (a : Fin 2) :
    scatter_S1x256_S2_S3_0_0_01_0.start k i a = (i (ix1 a)).toInt := by
  fin_cases a <;> (unfold ScatterDims.start; rw [dif_pos (by decide)]; congr 2; funext b; fin_cases b; rfl)

/-- So do the projection's. -/
theorem start_push (k : S128.Idx) (i : IVec S2 32) (a : Fin 2) :
    scatter_S1x256_S2_S128_0_0_01_0.start k i a = (i (ix1 a)).toInt := by
  fin_cases a <;> (unfold ScatterDims.start; rw [dif_pos (by decide)]; congr 2; funext b; fin_cases b; rfl)

/-- `N` entries put into the row of biases at the place that two one-entry arrays, zero and `o`, give. -/
theorem put_pair {α : Type} {N : ℕ} (d : ScatterDims S1x256 S2 (shape1 N)) (x : S1x256.Idx → α) (X Y : IVec S1 32)
    (h : Shape.Concatenates [S1, S1] S2 0) (upd : (shape1 N).Idx → α) (o : ℕ) (l : Fin 256)
    (hs : ∀ k (i : IVec S2 32) (a : Fin 2), d.start k i a = (i (ix1 a)).toInt)
    (hw : ∀ k : (shape1 N).Idx, d.window k 0 = 0 ∧ d.window k 1 = (k 0).val)
    (hX : (X (ix1 0)).toInt = 0) (hY : (Y (ix1 0)).toInt = o) :
    Host.scatter d (fun _ b => b) x (concatenate S2 0 [⟨S1, X⟩, ⟨S1, Y⟩] h) upd (ix2 0 l)
      = if h : o ≤ l.val ∧ l.val - o < N then upd (ix1 ⟨l.val - o, h.2⟩) else x (ix2 0 l) :=
  put_row d x _ upd o l (fun k => by rw [hs k _ 0, (concat_two X Y h).1, hX, (hw k).1]; rfl)
    fun k => by rw [hs k _ 1, (concat_two X Y h).2, hY, (hw k).2]

variable (m : (ℓ : Loc nD τ sig) → Buf (Elt Ideal) ℓ) (c : Dev nD)

/-- The parameters, as the kernel's arguments hold them. -/
def kerParams : Params where
  aw a k := (m ((c : Thread nD τ).loc main_arg4) : Vec Ideal S3x512 .f32) (ix2 a k)
  ab a := (m ((c : Thread nD τ).loc main_arg5) : Vec Ideal S3 .f32) (ix1 a)
  dw l k := (m ((c : Thread nD τ).loc main_arg6) : Vec Ideal S128x512 .f32) (ix2 l k)
  db l := (m ((c : Thread nD τ).loc main_arg7) : Vec Ideal S128 .f32) (ix1 l)
  wi g k := (m ((c : Thread nD τ).loc main_arg8) : Vec Ideal S2048x384 .f32) (ix2 g k)
  wh g k := (m ((c : Thread nD τ).loc main_arg9) : Vec Ideal S2048x512 .f32) (ix2 g k)
  bi g := (m ((c : Thread nD τ).loc main_arg10) : Vec Ideal S2048 .f32) (ix1 g)
  bh g := (m ((c : Thread nD τ).loc main_arg11) : Vec Ideal S2048 .f32) (ix1 g)

/-- Row `r` of the state that the kernel's arguments hold. -/
def kerRow (r : Fin 256) : RowState where
  h k := (m ((c : Thread nD τ).loc main_arg1) : Vec Ideal S1x256x512 .f32) (ix3 0 r k)
  c k := (m ((c : Thread nD τ).loc main_arg2) : Vec Ideal S1x256x512 .f32) (ix3 0 r k)
  s j l := (m ((c : Thread nD τ).loc main_arg3) : Vec Ideal S256x64x128 .f32) (ix3 r j l)

/-- Row `r` of the kernel's input sequence at step `t`. -/
def kerX (r : Fin 256) (t : ℕ) (k : Fin 256) : EReal :=
  (m ((c : Thread nD τ).loc main_arg0) : Vec Ideal S1024x256x256 .f32) (ix3 ⟨min t 1023, by omega⟩ r k)

/-- The two layers' weights, side by side. -/
theorem entry_ad (k : Fin 512) (l : Fin 256) :
    (V m c main_v7 : Vec Ideal S512x256 .bf16) (ix2 k l) = padW (kerParams m c) k l.val := by
  simp only [V, V0, hostOps0, List.flatten_cons, List.flatten_nil, List.append_nil]
  after_reads_simp
  pointwise
  rw [put_cols scatter_S512x256_S1_S512x3_01_n_1_0 _ _ _ 128 k l (fun _ => zero_add _) (fun _ => rfl),
    put_cols scatter_S512x256_S1_S512x128_01_n_1_0 _ _ _ 0 k l (fun _ => zero_add _) (fun _ => rfl)]
  unfold padW
  by_cases h : l.val < 128
  · rw [dif_neg (by omega), dif_pos ⟨Nat.zero_le _, h⟩, dif_pos h]
    pointwise
    rfl
  · rw [dif_neg h]
    by_cases h' : l.val - 128 < 3
    · rw [dif_pos ⟨by omega, h'⟩, dif_pos h']
      pointwise
      rfl
    · rw [dif_neg (by omega), dif_neg (by omega), dif_neg h']
      pointwise

/-- The two layers' biases, side by side. -/
theorem entry_adb (l : Fin 256) :
    (V m c main_v16 : Vec Ideal S1x256 .f32) (ix2 0 l) = padB (kerParams m c) l.val := by
  simp only [V, V0, hostOps0, List.flatten_cons, List.flatten_nil, List.append_nil]
  after_reads_simp
  rw [put_pair scatter_S1x256_S2_S3_0_0_01_0 _ _ _ _ _ 128 l start_action (fun _ => ⟨rfl, rfl⟩) ?_ ?_,
    put_pair scatter_S1x256_S2_S128_0_0_01_0 _ _ _ _ _ 0 l start_push (fun _ => ⟨rfl, rfl⟩) ?_ ?_]
  · unfold padB
    by_cases h : l.val < 128
    · rw [dif_neg (by omega), dif_pos ⟨Nat.zero_le _, h⟩, dif_pos h]
      rfl
    · rw [dif_neg h]
      by_cases h' : l.val - 128 < 3
      · rw [dif_pos ⟨by omega, h'⟩, dif_pos h']
        rfl
      · rw [dif_neg (by omega), dif_neg (by omega), dif_neg h']
        pointwise
        simp [Ideal.ofBits, Ideal.ieee]
  all_goals (after_reads_simp; rfl)

/-- The gates' weights of the input. -/
theorem entry_wx (k : Fin 256) (g : Fin 2048) :
    (V m c main_v19 : Vec Ideal S256x2048 .bf16) (ix2 k g) = (kerParams m c).wi g ⟨k.val, by omega⟩ := by
  simp only [V, V0, hostOps0, List.flatten_cons, List.flatten_nil, List.append_nil]
  after_reads_simp
  pointwise
  rfl

/-- The gates' weights of the stack's top. -/
theorem entry_ws (k : Fin 128) (g : Fin 2048) :
    (V m c main_v22 : Vec Ideal S128x2048 .bf16) (ix2 k g) = (kerParams m c).wi g ⟨256 + k.val, by omega⟩ := by
  simp only [V, V0, hostOps0, List.flatten_cons, List.flatten_nil, List.append_nil]
  after_reads_simp
  pointwise
  rfl

/-- The gates' weights of the hidden state. -/
theorem entry_wh (k : Fin 512) (g : Fin 2048) :
    (V m c main_v24 : Vec Ideal S512x2048 .bf16) (ix2 k g) = (kerParams m c).wh g k := by
  simp only [V, V0, hostOps0, List.flatten_cons, List.flatten_nil, List.append_nil]
  after_reads_simp
  pointwise
  rfl

/-- The gates' biases, summed. -/
theorem entry_bias (g : Fin 2048) :
    (V m c main_v26 : Vec Ideal S1x2048 .f32) (ix2 0 g) = (kerParams m c).bi g + (kerParams m c).bh g := by
  simp only [V, V0, hostOps0, List.flatten_cons, List.flatten_nil, List.append_nil]
  after_reads_simp
  pointwise
  rfl

/-- The stack, its two leading axes swapped. -/
theorem entry_stack (j : Fin 64) (r : Fin 256) (l : Fin 128) :
    (V m c main_v27 : Vec Ideal S64x256x128 .f32) (ix3 j r l) = (kerRow m c r).s j l := by
  simp only [V, V0, hostOps0, List.flatten_cons, List.flatten_nil, List.append_nil]
  after_reads_simp
  pointwise
  rfl

/-- The input sequence. -/
theorem entry_seq (n : ℕ) (hn : n < 1024) (r k : Fin 256) :
    (V m c main_v28 : Vec Ideal S1024x256x256 .bf16) (ix3 ⟨n, hn⟩ r k) = kerX m c r n k := by
  simp only [V, V0, hostOps0, List.flatten_cons, List.flatten_nil, List.append_nil]
  after_reads_simp
  pointwise
  have e : (⟨n, hn⟩ : Fin 1024) = ⟨min n 1023, by omega⟩ := Fin.ext (by show n = min n 1023; omega)
  rw [e]
  rfl

/-- The windows of the fixed operands stay at the origin. -/
theorem index_fixed (t : Fin cfg0.N) :
    win0_3.index t = ![0, 0] ∧ win0_4.index t = ![0, 0] ∧ win0_5.index t = ![0, 0] ∧ win0_6.index t = ![0, 0] ∧ win0_7.index t = ![0, 0]
      ∧ win0_8.index t = ![0, 0] ∧ win0_1.index t = ![0, 0, 0] ∧ win0_2.index t = ![0, 0, 0] :=
  ⟨rfl, rfl, rfl, rfl, rfl, rfl, rfl, rfl⟩

/-- The input's window is at step `t` at point `t`. -/
theorem index_x : ∀ t : Fin cfg0.N, win0_0.index t = ![t.val, 0, 0] :=
  (by decide +kernel : ∀ t : Fin grid0.N, _)

set_option maxHeartbeats 4000000 in
/-- Each block of a fixed operand, at an index: the operand there. -/
theorem iblk_whole (t : Fin cfg0.N) :
    (∀ k l, (iblk m c 3 t : Vec Ideal S512x256 .bf16) (ix2 k l) = (V m c main_v7 : Vec Ideal S512x256 .bf16) (ix2 k l))
      ∧ (∀ l, (iblk m c 4 t : Vec Ideal S1x256 .f32) (ix2 0 l) = (V m c main_v16 : Vec Ideal S1x256 .f32) (ix2 0 l))
      ∧ (∀ k g, (iblk m c 5 t : Vec Ideal S256x2048 .bf16) (ix2 k g) = (V m c main_v19 : Vec Ideal S256x2048 .bf16) (ix2 k g))
      ∧ (∀ k g, (iblk m c 6 t : Vec Ideal S128x2048 .bf16) (ix2 k g) = (V m c main_v22 : Vec Ideal S128x2048 .bf16) (ix2 k g))
      ∧ (∀ k g, (iblk m c 7 t : Vec Ideal S512x2048 .bf16) (ix2 k g) = (V m c main_v24 : Vec Ideal S512x2048 .bf16) (ix2 k g))
      ∧ (∀ g, (iblk m c 8 t : Vec Ideal S1x2048 .f32) (ix2 0 g) = (V m c main_v26 : Vec Ideal S1x2048 .f32) (ix2 0 g)) := by
  refine ⟨fun k l => ?_, fun l => ?_, fun k l => ?_, fun k l => ?_, fun k l => ?_, fun l => ?_⟩ <;> blk_ext [iblk, index_fixed t]

/-- The blocks of the initial states, likewise. -/
theorem iblk_start (t : Fin cfg0.N) (r : Fin 256) (k : Fin 512) :
    (iblk m c 1 t : Vec Ideal S1x256x512 .f32) (ix3 0 r k) = (V m c main_arg1 : Vec Ideal S1x256x512 .f32) (ix3 0 r k)
      ∧ (iblk m c 2 t : Vec Ideal S1x256x512 .f32) (ix3 0 r k) = (V m c main_arg2 : Vec Ideal S1x256x512 .f32) (ix3 0 r k) := by
  refine ⟨?_, ?_⟩ <;> blk_ext [iblk, index_fixed t]

/-- At every point the kernel's blocks hold the cell's parameters. -/
theorem holds (t : Fin cfg0.N) :
    Holds (kerParams m c) (iblk m c 3 t) (iblk m c 4 t) (iblk m c 5 t) (iblk m c 6 t) (iblk m c 7 t) (iblk m c 8 t) where
  ad k l := ((iblk_whole m c t).1 k l).trans (entry_ad m c k l)
  adb l := ((iblk_whole m c t).2.1 l).trans (entry_adb m c l)
  wx k g := ((iblk_whole m c t).2.2.1 k g).trans (entry_wx m c k g)
  ws k g := ((iblk_whole m c t).2.2.2.1 k g).trans (entry_ws m c k g)
  wh k g := ((iblk_whole m c t).2.2.2.2.1 k g).trans (entry_wh m c k g)
  bias g := ((iblk_whole m c t).2.2.2.2.2 g).trans (entry_bias m c g)

/-- Point `t`'s input block holds row by row the sequence at step `t`. -/
theorem x_row (t : Fin cfg0.N) (r : Fin 256) : inRow (iblk m c 0 t) r = kerX m c r t.val := by
  funext k
  show (iblk m c 0 t : Vec Ideal S1x256x256 .bf16) (ix3 0 r k) = _
  rw [← entry_seq m c t.val t.isLt r k]
  blk_ext [iblk, index_x]

end Cert.StackRnn
-- ==== Proof.StackRnn.StackRow.lean ====
/-
  The stack rows the kernel stores, read at an index: each slot is the row's new stack (Spec.lean), from the loads of the slot
  itself and of its two neighbours.
-/
module

public import proofs.«01_k».proof.Proof.StackRnn.Payloads
public import Idealize.ShloMosaic.Lib.Pipeline.ValueKit
public import Idealize.ShloMosaic.Lib.Pipeline.ReadBack

@[expose] public section
set_option maxRecDepth 16384
noncomputable section
namespace Cert.StackRnn
open Idealize.ShloMosaic Idealize.ShloMosaic.TcCoe
open Cert.KernelIdeal Cert.KernelIdeal.Gen

/-- A loaded slot, without its leading unit axis. -/
abbrev slot (a : Vec Ideal S1x256x128 .f32) : FVec Ideal S256x128 .f32 := shapeCast S256x128 a shapeCasts_S1x256x128_S256x128

/-- What the body computes of a slot but for the pop's share. -/
abbrev keepPush (q0 q2 : FVec Ideal S256x1 .f32) (a b : FVec Ideal S256x128 .f32) : FVec Ideal S256x128 .f32 :=
  addf (mulf (broadcastTo S256x128 q2 broadcasts_S256x1_S256x128) a) (mulf (broadcastTo S256x128 q0 broadcasts_S256x1_S256x128) b)

/-- What the body computes of a slot: no-op, push and pop shares summed. -/
abbrev mix (q0 q1 q2 : FVec Ideal S256x1 .f32) (a b d : FVec Ideal S256x128 .f32) : FVec Ideal S256x128 .f32 :=
  addf (keepPush q0 q2 a b) (mulf (broadcastTo S256x128 q1 broadcasts_S256x1_S256x128) d)

/-- A computed slot as it is stored. -/
abbrev stored (a : FVec Ideal S256x128 .f32) : FVec Ideal S1x256x128 .f32 := shapeCast S1x256x128 a shapeCasts_S256x128_S1x256x128

/-- The load of slot `n` of a stack. -/
abbrev loadSlot (s : Vec Ideal S64x256x128 .f32) (n : ℕ) (hn : ∀ a, (![n, 0, 0] : Fin 3 → ℕ) a + (![1, 256, 128] : Fin 3 → ℕ) a ≤ S64x256x128.size a) :
    Vec Ideal S1x256x128 .f32 := View.ld s (Rect.unit ![n, 0, 0] ![1, 256, 128] hn)

/-- A slot loaded, at an index. -/
theorem slot_at (s : Vec Ideal S64x256x128 .f32) (n : ℕ) (hn) (k : Fin 64) (hk : k.val = n) (r : Fin 256) (l : Fin 128) :
    loadSlot s n hn (ix3 0 r l) = s (ix3 k r l) := by
  subst hk
  refine View.ld_unit_apply_of s _ _ hn _ _ fun a => ?_
  fin_cases a <;> simp

variable {W : Params} {q0 q1 q2 : FVec Ideal S256x1 .f32} {s : Vec Ideal S64x256x128 .f32} {st : Fin 256 → RowState}
  (hs : ∀ j r l, s (ix3 j r l) = (st r).s j l)
  (h0 : ∀ r z, q0 (ix2 r z) = action W (st r).h 0) (h1 : ∀ r z, q1 (ix2 r z) = action W (st r).h 1)
  (h2 : ∀ r z, q2 (ix2 r z) = action W (st r).h 2)

include hs h0 h1 h2 in
/-- A slot between the first and the last. -/
theorem mid_slot (n p q : ℕ) (hn hp hq) (j : Fin 64) (hj : j.val = n) (hp' : p + 1 = n) (hq' : q = n + 1) (r : Fin 256) (l : Fin 128) :
    mix q0 q1 q2 (slot (loadSlot s n hn)) (slot (loadSlot s p hp)) (slot (loadSlot s q hq)) (ix2 r l) = stackNext W (st r) j l := by
  unfold mix keepPush
  have hq2 : q < 64 := by have := hq 0; simp at this; have : q + 1 ≤ 64 := this; omega
  pointwise
  rw [h0, h1, h2, slot_at s n hn j hj, slot_at s p hp ⟨j.val - 1, by omega⟩ (by simp; omega), slot_at s q hq ⟨1 + j.val, by omega⟩ (by simp; omega), hs, hs, hs]
  unfold stackNext above below
  rw [dif_neg (by omega), dif_pos (by omega)]

include hs h0 h1 h2 in
/-- The first slot, under the pushed word. -/
theorem top_slot (w : FVec Ideal S256x128 .f32) (hw : ∀ r l, w (ix2 r l) = word W (st r).h l) (hn hq) (r : Fin 256) (l : Fin 128) :
    mix q0 q1 q2 (slot (loadSlot s 0 hn)) w (slot (loadSlot s 1 hq)) (ix2 r l) = stackNext W (st r) 0 l := by
  unfold mix keepPush
  pointwise
  rw [h0, h1, h2, slot_at s 0 hn 0 rfl, slot_at s 1 hq 1 rfl, hw, hs, hs]
  rfl

include hs h0 h2 in
/-- The last slot, which nothing rises into. -/
theorem last_slot (hn hp) (r : Fin 256) (l : Fin 128) :
    keepPush q0 q2 (slot (loadSlot s 63 hn)) (slot (loadSlot s 62 hp)) (ix2 r l) = stackNext W (st r) 63 l := by
  unfold keepPush
  pointwise
  rw [h0, h2, slot_at s 63 hn 63 rfl, slot_at s 62 hp 62 rfl, hs, hs]
  unfold stackNext
  rw [show below (st r) 63 l = 0 from rfl, mul_zero, add_zero]
  rfl

/-- A stored slot, at an index of the store's block. -/
theorem stored_at (a : FVec Ideal S256x128 .f32) (x : S1x256x128.Idx) (r : Fin 256) (l : Fin 128) (hr : r.val = (x 1).val)
    (hl : l.val = (x 2).val) : stored a x = a (ix2 r l) := by
  idx_vars x
  obtain rfl : r = x1 := Fin.ext hr
  obtain rfl : l = x2 := Fin.ext hl
  unfold stored
  pointwise

variable (x : S1x256x128.Idx) {j : Fin 64} {r : Fin 256} {l : Fin 128} (hr : r.val = (x 1).val) (hl : l.val = (x 2).val)

include hs h0 h1 h2 hr hl in
/-- The store of a slot between the first and the last: the new stack there. -/
theorem mid_stored {n p q : ℕ} {hn hp hq} (hj : j.val = n + (x 0).val) (hx : (x 0).val < 1) (hp' : p + 1 = n) (hq' : q = n + 1) :
    stored (mix q0 q1 q2 (slot (loadSlot s n hn)) (slot (loadSlot s p hp)) (slot (loadSlot s q hq))) x = stackNext W (st r) j l :=
  (stored_at _ x r l hr hl).trans (mid_slot hs h0 h1 h2 n p q hn hp hq j (by omega) hp' hq' r l)

include hs h0 h1 h2 hr hl in
/-- The store of the first slot: the new stack there. -/
theorem top_stored {w : FVec Ideal S256x128 .f32} (hw : ∀ r l, w (ix2 r l) = word W (st r).h l) {hn hq} (hj : j.val = (x 0).val)
    (hx : (x 0).val < 1) :
    stored (mix q0 q1 q2 (slot (loadSlot s 0 hn)) w (slot (loadSlot s 1 hq))) x = stackNext W (st r) j l := by
  obtain rfl : j = 0 := Fin.ext (by show j.val = 0; omega)
  exact (stored_at _ x r l hr hl).trans (top_slot hs h0 h1 h2 w hw hn hq r l)

include hs h0 h2 hr hl in
/-- The store of the last slot: the new stack there. -/
theorem last_stored {hn hp} (hj : j.val = 63 + (x 0).val) (hx : (x 0).val < 1) :
    stored (keepPush q0 q2 (slot (loadSlot s 63 hn)) (slot (loadSlot s 62 hp))) x = stackNext W (st r) j l := by
  obtain rfl : j = 63 := Fin.ext (by show j.val = 63; omega)
  exact (stored_at _ x r l hr hl).trans (last_slot hs h0 h2 hn hp r l)

end Cert.StackRnn
-- ==== Proof.StackRnn.KernelStep.lean ====
/-
  What the kernel's outputs and its carried stack hold after a grid point, from what it reads there: the cell's step (Spec.lean)
  of every row. The first and the last point compute what a middle point computes, so the values are read once, at a middle point.
-/
module

public import proofs.«01_k».proof.Proof.Gen.KernelIdeal.Frame
public import proofs.«01_k».proof.Proof.StackRnn.StackRow

@[expose] public section
set_option maxRecDepth 16384
noncomputable section
namespace Cert.StackRnn
open Idealize.ShloMosaic Idealize.ShloMosaic.TcCoe Idealize.ShloMosaic.Tactic
open Cert.KernelIdeal Cert.KernelIdeal.Gen

/-- A load through a rectangle, right after a transfer filled the whole buffer: the transferred words there. -/
theorem load_filled {κ : Kind} {s : Shape} {e : EltTy} {sp : Space} (v : View sig κ sp s e) (w : s.Idx → Elt Ideal e) (r : Rect s) :
    v.readCov [⟨Rect.whole s, w⟩] r.toLoadRect = View.ld w r := by
  rw [View.readCov_eq_canon']
  funext j
  exact (congrArg (View.canon _) (Rect.emb_whole_apply s (r.idx j)).symm).trans
    (View.canon_cons_emb (Val := Elt Ideal) (Rect.whole s) w [] (r.idx j))

/-- A row of the batch is a state, when its three parts are. -/
theorem rowSt_eq (v c : Vec Ideal S1x256x512 .f32) (s : Vec Ideal S64x256x128 .f32) (r : Fin 256) (st : RowState)
    (h1 : ∀ k, v (ix3 0 r k) = st.h k) (h2 : ∀ k, c (ix3 0 r k) = st.c k) (h3 : ∀ j l, s (ix3 j r l) = st.s j l) :
    rowSt v c s r = st := by
  obtain ⟨a, b, d⟩ := st
  obtain rfl : wide v r = a := funext h1
  obtain rfl : wide c r = b := funext h2
  obtain rfl : (fun j l => s (ix3 j r l)) = d := funext fun j => funext fun l => h3 j l
  rfl

variable (m : (ℓ : Loc nD τ sig) → Buf (Elt Ideal) ℓ) (c : Dev nD) (t : Fin cfg0.N)

section Middle

variable (i : grid0.Coords) (hc0 : ¬cond0_0 i) (hc1 : ¬cond0_1 i)
  (v c' : Vec Ideal S1x256x512 .f32) (s : Vec Ideal S64x256x128 .f32)

/-- The body's run at a middle point's coordinates `i`, over point `t`'s blocks, from hidden block `v`, cell block `c'`, stack `s`. -/
abbrev midRun := kernelRun0_B (F := Ideal) c i (ms0_0 t) (hs0_0 t) (ms0_1 t) (hs0_1 t) (ms0_2 t) (hs0_2 t) (ms0_3 t) (hs0_3 t)
  (ms0_4 t) (hs0_4 t) (ms0_5 t) (hs0_5 t) (ms0_6 t) (hs0_6 t) (ms0_7 t) (hs0_7 t) (ms0_8 t) (hs0_8 t) (ms0_9 t) (hs0_9 t)
  (ms0_10 t) (hs0_10 t) (ms0_11 t) (hs0_11 t) scM0_0 (Memref.isWhole_whole _) scM0_1 (Memref.isWhole_whole _) hc0 hc1
  (iblk m c 0 t) (iblk m c 1 t) (iblk m c 2 t) (iblk m c 3 t) (iblk m c 4 t) (iblk m c 5 t) (iblk m c 6 t) (iblk m c 7 t)
  (iblk m c 8 t) v c' s (V m c main_v27)

/-- What that run leaves in the output, the hidden and the cell block and the stack. -/
def midOuts : Vec Ideal S1x256x512 .f32 × Vec Ideal S1x256x512 .f32 × Vec Ideal S1x256x512 .f32 × Vec Ideal S64x256x128 .f32 :=
  (VO0_9.read (Elt Ideal) (VO0_9.writes (Elt Ideal) VO0_9.junk (midRun m c t i hc0 hc1 v c' s).1),
    VO0_10.read (Elt Ideal) (VO0_10.writes (Elt Ideal) VO0_10.junk (midRun m c t i hc0 hc1 v c' s).2.1),
    VO0_11.read (Elt Ideal) (VO0_11.writes (Elt Ideal) VO0_11.junk (midRun m c t i hc0 hc1 v c' s).2.2.1),
    VS0_0.read (Elt Ideal) (VS0_0.writes (Elt Ideal) VS0_0.junk (midRun m c t i hc0 hc1 v c' s).2.2.2.1))

/-- A middle point's contents. -/
theorem outs_mid (h0 : ¬t.val % 1024 = 0) (h1 : ¬t.val % 1024 = 1023) (p) (hp : p = outsAt0 m c (t.val - 1) (Nat.lt_of_le_of_lt (Nat.sub_le _ _) t.isLt)) :
    outsAt0 m c t.val t.isLt = midOuts m c t i hc0 hc1 p.2.1 p.2.2.1 p.2.2.2 := by
  rw [outsAt0_B m c t h0 h1, ← hp]
  sl_kernel_rfl

/-- The last point's contents. -/
theorem outs_last (h0 : ¬t.val % 1024 = 0) (h1 : t.val % 1024 = 1023) (p) (hp : p = outsAt0 m c (t.val - 1) (Nat.lt_of_le_of_lt (Nat.sub_le _ _) t.isLt)) :
    outsAt0 m c t.val t.isLt = midOuts m c t i hc0 hc1 p.2.1 p.2.2.1 p.2.2.2 := by
  rw [outsAt0_C m c t h0 h1, ← hp]
  sl_kernel_rfl

set_option maxHeartbeats 4000000 in
/-- The first point's contents: a middle point's, from the initial blocks and the initial stack that it copies in. -/
theorem outs_first (h0 : t.val % 1024 = 0) (h1 : ¬t.val % 1024 = 1023) :
    outsAt0 m c t.val t.isLt = midOuts m c t i hc0 hc1 (iblk m c 1 t) (iblk m c 2 t) (V m c main_v27) := by
  rw [outsAt0_A m c t h0 h1]
  unfold midOuts
  refine Prod.ext ?_ (Prod.ext ?_ (Prod.ext ?_ ?_))
  · dsimp only [midRun]
    frame_open
    simp (disch := decide) only [↓ View.readCov_skip, ↓ View.readCov_cons_toLoadRect, ↓ View.readCov_fill]
    frame_out
    simp only [load_filled, read_unread_whole]
    generalize V m c main_v27 = X
    rfl
  · dsimp only [midRun]
    frame_open
    simp (disch := decide) only [↓ View.readCov_skip, ↓ View.readCov_cons_toLoadRect, ↓ View.readCov_fill]
    frame_out
    simp only [load_filled, read_unread_whole]
    generalize V m c main_v27 = X
    rfl
  · dsimp only [midRun]
    frame_open
    simp (disch := decide) only [↓ View.readCov_skip, ↓ View.readCov_cons_toLoadRect, ↓ View.readCov_fill]
    frame_out
    simp only [load_filled, read_unread_whole]
    generalize V m c main_v27 = X
    rfl
  · dsimp only
    refine (congrArg (fun L => VS0_0.read (Elt Ideal) (VS0_0.writes (Elt Ideal) VS0_0.junk L)) (?_ : _ = (midRun m c t i hc0 hc1 (iblk m c 1 t) (iblk m c 2 t) (V m c main_v27)).2.2.2.1 ++ [⟨Rect.whole S64x256x128, V m c main_v27⟩])).trans ?_
    · dsimp only [midRun]
      frame_open
      simp (disch := decide) only [↓ View.readCov_skip, ↓ View.readCov_cons_toLoadRect, ↓ View.readCov_fill]
      simp (disch := decide) only [load_filled, View.readAt_eq_ld, read_unread_whole, View.ld_unit_lit', Memref.IsWhole.read_unread, List.cons_append, List.nil_append]
      generalize V m c main_v27 = X
      rfl
    · rw [View.writes_append]
      exact View.read_writes_of_cover _ _ _ _ _ (scover0_B_0 c _ _ _ _ _ _ _ _ _ _ _ _ _ _ _ _ _ _ _ _ _ _ _ _ _ _ _ _ _ _ _ _ _ _ _ _ _ _ _ _ _ _ _ _)

variable {W : Params} (H : Holds W (iblk m c 3 t) (iblk m c 4 t) (iblk m c 5 t) (iblk m c 6 t) (iblk m c 7 t) (iblk m c 8 t))

include H

set_option maxHeartbeats 4000000 in
/-- The stack a middle point leaves. -/
theorem mid_stack (j : Fin 64) (r : Fin 256) (l : Fin 128) :
    (midOuts m c t i hc0 hc1 v c' s).2.2.2 (ix3 j r l) = stackNext W (rowSt v c' s r) j l := by
  unfold midOuts
  dsimp only [midRun]
  frame_open
  simp (disch := decide) only [↓ View.readCov_skip, ↓ View.readCov_cons_toLoadRect, ↓ View.readCov_fill]
  frame_out
  simp only [read_unread_whole]
  have A0 := pay_push H v
  have A1 := pay_pop H v
  have A2 := pay_noop H v
  have A3 := pay_word H v
  generalize k0_pay9 v (iblk m c 3 t) (iblk m c 4 t) = q0 at A0 ⊢
  generalize k0_pay10 v (iblk m c 3 t) (iblk m c 4 t) = q1 at A1 ⊢
  generalize k0_pay11 v (iblk m c 3 t) (iblk m c 4 t) = q2 at A2 ⊢
  generalize k0_pay7 v (iblk m c 3 t) (iblk m c 4 t) = w at A3 ⊢
  have S : ∀ (j : Fin 64) (r : Fin 256) (l : Fin 128), s (ix3 j r l) = (rowSt v c' s r).s j l := fun _ _ _ => rfl
  have M := fun x j r l hr hl n p q hn hp hq hj hx hp' hq' => @mid_stored W q0 q1 q2 s (rowSt v c' s) S A0 A1 A2 x j r l hr hl n p q hn hp hq hj hx hp' hq'
  canon_tiles x h
  all_goals first
    | exact M x _ _ _ h1 h2 _ _ _ _ _ _ h0 x0_lt rfl rfl
    | exact last_stored S A0 A2 x h1 h2 h0 x0_lt
    | exact top_stored S A0 A1 A2 x h1 h2 A3 h0 x0_lt

set_option maxHeartbeats 1000000 in
/-- The hidden block a middle point leaves, which it also puts out. -/
theorem mid_hid (r : Fin 256) (k : Fin 512) :
    (midOuts m c t i hc0 hc1 v c' s).1 (ix3 0 r k) = hidNext W (inRow (iblk m c 0 t) r) (rowSt v c' s r) k
      ∧ (midOuts m c t i hc0 hc1 v c' s).2.1 (ix3 0 r k) = hidNext W (inRow (iblk m c 0 t) r) (rowSt v c' s r) k := by
  unfold midOuts
  dsimp only [midRun]
  frame_open
  simp (disch := decide) only [↓ View.readCov_skip, ↓ View.readCov_cons_toLoadRect, ↓ View.readCov_fill]
  frame_out
  simp only [read_unread_whole]
  have T := top_slot (s := s) (st := rowSt v c' s) (fun _ _ _ => rfl) (pay_push H v) (pay_pop H v) (pay_noop H v) _ (pay_word H v)
  constructor
  · unfold k0_pay1
    pointwise
    exact pay_hid H v c' s _ _ r k fun l => T _ _ r l
  · unfold k0_pay3
    pointwise
    exact pay_hid H v c' s _ _ r k fun l => T _ _ r l

set_option maxHeartbeats 1000000 in
/-- The cell block a middle point leaves. -/
theorem mid_cell (r : Fin 256) (k : Fin 512) :
    (midOuts m c t i hc0 hc1 v c' s).2.2.1 (ix3 0 r k) = cellNext W (inRow (iblk m c 0 t) r) (rowSt v c' s r) k := by
  unfold midOuts
  dsimp only [midRun]
  frame_open
  simp (disch := decide) only [↓ View.readCov_skip, ↓ View.readCov_cons_toLoadRect, ↓ View.readCov_fill]
  frame_out
  simp only [read_unread_whole]
  have T := top_slot (s := s) (st := rowSt v c' s) (fun _ _ _ => rfl) (pay_push H v) (pay_pop H v) (pay_noop H v) _ (pay_word H v)
  unfold k0_pay2
  pointwise
  exact pay_cell H v c' s _ _ r k fun l => T _ _ r l

/-- A middle point steps every row of the batch, and puts out the new hidden row. -/
theorem mid_steps (r : Fin 256) :
    rowSt (midOuts m c t i hc0 hc1 v c' s).2.1 (midOuts m c t i hc0 hc1 v c' s).2.2.1 (midOuts m c t i hc0 hc1 v c' s).2.2.2 r
        = rowNext W (inRow (iblk m c 0 t) r) (rowSt v c' s r)
      ∧ ∀ k, (midOuts m c t i hc0 hc1 v c' s).1 (ix3 0 r k) = (rowNext W (inRow (iblk m c 0 t) r) (rowSt v c' s r)).h k := by
  exact ⟨rowSt_eq _ _ _ r _ (fun k => (mid_hid m c t i hc0 hc1 v c' s H r k).2) (fun k => mid_cell m c t i hc0 hc1 v c' s H r k)
    fun j l => mid_stack m c t i hc0 hc1 v c' s H j r l, fun k => (mid_hid m c t i hc0 hc1 v c' s H r k).1⟩

end Middle
end Cert.StackRnn
-- ==== Proof.StackRnn.Steps.lean ====
/- What the kernel has computed after each grid point: row by row, the state that many steps of the cell lead to. -/
module

public import proofs.«01_k».proof.Proof.StackRnn.KernelStep

@[expose] public section

set_option maxRecDepth 16384

noncomputable section

namespace Cert.StackRnn

open Idealize.ShloMosaic Idealize.ShloMosaic.TcCoe
open Cert.KernelIdeal Cert.KernelIdeal.Gen

variable (m : (ℓ : Loc nD τ sig) → Buf (Elt Ideal) ℓ) (c : Dev nD)

/-- There is a point that is neither the first nor the last. -/
theorem middle_coords : ∃ i : grid0.Coords, ¬cond0_0 i ∧ ¬cond0_1 i := by
  refine ⟨grid0.coords ⟨1, by decide⟩, ?_, ?_⟩
  · exact fun h => absurd ((hcond0_0 ⟨1, by decide⟩).1 h) (by decide)
  · exact fun h => absurd ((hcond0_1 ⟨1, by decide⟩).1 h) (by decide)

/-- After point `n` of the grid, row `r` is in the state that `n + 1` steps of the cell lead to, and the point's output
    block holds that state's hidden row. -/
theorem after_points {W : Params}
    (H : ∀ t : Fin cfg0.N, Holds W (iblk m c 3 t) (iblk m c 4 t) (iblk m c 5 t) (iblk m c 6 t) (iblk m c 7 t) (iblk m c 8 t))
    (r : Fin 256) (xs : ℕ → Fin 256 → EReal) (hx : ∀ t : Fin cfg0.N, inRow (iblk m c 0 t) r = xs t.val)
    (st : RowState) (hst : ∀ t : Fin cfg0.N, rowSt (iblk m c 1 t) (iblk m c 2 t) (V m c main_v27) r = st) (n : ℕ) (hn : n < cfg0.N) :
    rowSt (outsAt0 m c n hn).2.1 (outsAt0 m c n hn).2.2.1 (outsAt0 m c n hn).2.2.2 r = rowAfter W xs st (n + 1)
      ∧ ∀ k, (outsAt0 m c n hn).1 (ix3 0 r k) = (rowAfter W xs st (n + 1)).h k := by
  obtain ⟨i, hc0, hc1⟩ := middle_coords
  induction n with
  | zero =>
    have e := outs_first m c ⟨0, hn⟩ i hc0 hc1 rfl (show ¬0 % 1024 = 1023 by decide)
    have := mid_steps m c ⟨0, hn⟩ i hc0 hc1 (iblk m c 1 ⟨0, hn⟩) (iblk m c 2 ⟨0, hn⟩) (V m c main_v27) (H _) r
    rw [hst, hx, ← e] at this
    exact this
  | succ n ih =>
    have hN : n + 1 < 1024 := hn
    have h0 : ¬(n + 1) % 1024 = 0 := by omega
    have ih' := (ih (by omega)).1
    obtain ⟨p, hp⟩ : ∃ p, p = outsAt0 m c n (Nat.lt_of_le_of_lt (Nat.le_succ n) hn) := ⟨_, rfl⟩
    have e : outsAt0 m c (n + 1) hn = midOuts m c ⟨n + 1, hn⟩ i hc0 hc1 p.2.1 p.2.2.1 p.2.2.2 := by
      by_cases h1 : (n + 1) % 1024 = 1023
      · exact outs_last m c ⟨n + 1, hn⟩ i hc0 hc1 h0 h1 p hp
      · exact outs_mid m c ⟨n + 1, hn⟩ i hc0 hc1 h0 h1 p hp
    have := mid_steps m c ⟨n + 1, hn⟩ i hc0 hc1 p.2.1 p.2.2.1 p.2.2.2 (H _) r
    rw [← hp] at ih'
    rw [ih', hx, ← e] at this
    exact this

end Cert.StackRnn
-- ==== Proof.StackRnn.Results.lean ====
/-
  The kernel's run with its four results: row by row, what the cell's steps from the arguments lead to.
-/
module

public import proofs.«01_k».proof.Proof.StackRnn.NamedRun
public import proofs.«01_k».proof.Proof.StackRnn.HostEntry
public import proofs.«01_k».proof.Proof.StackRnn.Steps
public import Idealize.ShloMosaic.Lib.Pipeline.Covers

@[expose] public section

set_option maxRecDepth 16384

noncomputable section

namespace Cert.StackRnn

open Idealize.ShloMosaic Idealize.ShloMosaic.TcCoe Idealize.ShloMosaic.Pipeline Idealize.SL.Sem
open Cert.KernelIdeal Cert.KernelIdeal.Gen

variable (m : (ℓ : Loc nD τ sig) → Buf (Elt Ideal) ℓ) (ρ : Dev nD → PrngReg) (c : Dev nD)

/-- The state of row `r` after `n` steps. -/
abbrev kerAfter (r : Fin 256) (n : ℕ) : RowState := rowAfter (kerParams m c) (kerX m c r) (kerRow m c r) n

/-- The hidden rows after every step. -/
def allHidden : Vec Ideal S1024x256x512 .f32 := fun i => (kerAfter m c (i 1) ((i 0).val + 1)).h (i 2)

/-- The hidden rows after the last step. -/
def lastHidden : Vec Ideal S1x256x512 .f32 := fun i => (kerAfter m c (i 1) 1024).h (i 2)

/-- The cell rows after the last step. -/
def lastCell : Vec Ideal S1x256x512 .f32 := fun i => (kerAfter m c (i 1) 1024).c (i 2)

/-- The stacks after the last step. -/
def lastStacks : Vec Ideal S256x64x128 .f32 := fun i => (kerAfter m c (i 0) 1024).s (i 1) (i 2)

/-- Every row starts from the arguments' state. -/
theorem start_row (t : Fin cfg0.N) (r : Fin 256) : rowSt (iblk m c 1 t) (iblk m c 2 t) (V m c main_v27) r = kerRow m c r :=
  rowSt_eq _ _ _ r _ (fun k => ((iblk_start m c t r k).1).trans (congrFun (V_main_arg1 m c) (ix3 0 r k)))
    (fun k => ((iblk_start m c t r k).2).trans (congrFun (V_main_arg2 m c) (ix3 0 r k))) fun j l => entry_stack m c j r l

/-- After point `n`, every row's state and output. -/
theorem after_point (r : Fin 256) (n : ℕ) (hn : n < cfg0.N) :
    rowSt (outsAt0 m c n hn).2.1 (outsAt0 m c n hn).2.2.1 (outsAt0 m c n hn).2.2.2 r = kerAfter m c r (n + 1)
      ∧ ∀ k, (outsAt0 m c n hn).1 (ix3 0 r k) = (kerAfter m c r (n + 1)).h k :=
  after_points m c (holds m c) r (kerX m c r) (fun t => x_row m c t r) (kerRow m c r) (fun t => start_row m c t r) n hn

/-- A row's state, part by part. -/
theorem rowSt_parts (v c : Vec Ideal S1x256x512 .f32) (s : Vec Ideal S64x256x128 .f32) (r : Fin 256) (st : RowState)
    (h : rowSt v c s r = st) :
    (∀ k, v (ix3 0 r k) = st.h k) ∧ (∀ k, c (ix3 0 r k) = st.c k) ∧ ∀ j l, s (ix3 j r l) = st.s j l := by
  subst h
  exact ⟨fun _ => rfl, fun _ => rfl, fun _ _ => rfl⟩

/-- The outputs' window is at step `t` at point `t`. -/
theorem index_outs : ∀ t : Fin cfg0.N, win0_9.index t = ![t.val, 0, 0] :=
  (by decide +kernel : ∀ t : Fin grid0.N, _)

/-- The outputs' blocks cover their array: one for each step. -/
theorem outs_cover : (cfg0.win 9).Covers := by
  refine Window.covers_of_indexMap_surj _ rfl (by decide) fun β => ?_
  have h0 : (β 0).val < 1024 := (β 0).isLt
  refine ⟨grid0.coords ⟨(β 0).val, h0⟩, fun a => ?_⟩
  have e := congrFun (index_outs ⟨(β 0).val, h0⟩) a
  refine Eq.trans e ?_
  fin_cases a
  · rfl
  · have : (β 1).val < 1 := (β 1).isLt
    show 0 = (β 1).val
    omega
  · have : (β 2).val < 1 := (β 2).isLt
    show 0 = (β 2).val
    omega

/-- An index of one step's block. -/
theorem one_block (y : S1x256x512.Idx) : y = ix3 0 (y 1) (y 2) := by
  funext a
  fin_cases a
  · exact Fin.ext (by have : (y 0).val < 1 := (y 0).isLt; show (y 0).val = 0; omega)
  · rfl
  · rfl

/-- The first result's array: the hidden rows after every step. -/
theorem outs_array : (namedDats m 0 c).arrAt 9 cfg0.N = allHidden m c := by
  refine (namedDats m 0 c).arrAt_eq_of_covers 9 _ outs_cover fun t hf y => ?_
  blk_simp
  refine (congrFun (after0_9 m c t) y).trans ?_
  have e : (win0_9.blk t).view.emb y = (ix3 ⟨t.val, t.isLt⟩ (y 1) (y 2) : S1024x256x512.Idx) := by
    blk_ext [index_outs]
  rw [e]
  refine (congrArg _ (one_block y)).trans ?_
  exact (after_point m c (y 1) t.val t.isLt).2 (y 2)

/-- At the last point each final state is written whole. -/
theorem whole_last (t : Fin cfg0.N) (ht : t.val = 1023) : (cfg0.win 10).WholeAt t ∧ (cfg0.win 11).WholeAt t := by
  obtain rfl : t = ⟨1023, by decide⟩ := Fin.ext ht
  decide +kernel

/-- The second result's array: the hidden rows after the last step. -/
theorem hidden_array (t : Fin cfg0.N) (ht : t.val = 1023) : (namedDats m 0 c).arrAt 10 cfg0.N = lastHidden m c := by
  refine (namedDats m 0 c).arrAt_eq_of_after_last 10 t (whole_last t ht).1 _ fun j => ?_
  blk_simp
  refine (congrFun (after0_10 m c t) j).trans ?_
  refine (congrArg _ (one_block j)).trans (((rowSt_parts _ _ _ _ _ (after_point m c (j 1) t.val t.isLt).1).1 (j 2)).trans ?_)
  rw [ht]
  rfl

/-- The third result's array: the cell rows after the last step. -/
theorem cell_array (t : Fin cfg0.N) (ht : t.val = 1023) : (namedDats m 0 c).arrAt 11 cfg0.N = lastCell m c := by
  refine (namedDats m 0 c).arrAt_eq_of_after_last 11 t (whole_last t ht).2 _ fun j => ?_
  blk_simp
  refine (congrFun (after0_11 m c t) j).trans ?_
  refine (congrArg _ (one_block j)).trans (((rowSt_parts _ _ _ _ _ (after_point m c (j 1) t.val t.isLt).1).2.1 (j 2)).trans ?_)
  rw [ht]
  rfl

/-- The fourth result, from the array that the last point fills. -/
theorem stack_array (t : Fin cfg0.N) (ht : t.val = 1023)
    (A : (w : Fin cfg0.W) → Buf (Elt Ideal) ((spec0 w).arr.view.loc (c : Thread nD τ))) :
    StableHlo.after [hostOps1].flatten (withArrays spec0 c (withR (V0 m c) R0 c (filled m c)) A) (Proc.devRef .tc main_v30) = lastStacks m c := by
  simp only [hostOps1, List.flatten_cons, List.flatten_nil, List.append_nil]
  after_reads_simp
  rw [withArrays_of_ne spec0 c _ A main_v29_3 (by decide), withR_of_mem _ R0 c (filled m c) main_v29_3 (by decide), filled_eq,
    ← last_outs m c t.val t.isLt ht]
  have e : ∀ s : Vec Ideal S64x256x128 .f32, (Memref.isWhole_whole main_v29_3).unread s = s := fun s => (Memref.isWhole_whole main_v29_3).read_unread s
  rw [e]
  funext i
  pointwise
  refine ((rowSt_parts _ _ _ _ _ (after_point m c (i 0) t.val t.isLt).1).2.2 (i 1) (i 2)).trans ?_
  rw [ht]
  rfl

/-- The kernel's run: its four results. -/
theorem kernel_results : θ_run defs (onTc (τ := τ) (main (F := Ideal))) ⟨m, fun _ => 0, ρ⟩ (fun r => ∀ c : Dev nD,
    r.2.mem ((c.tc : Thread nD τ).loc main_v29_0) = allHidden m c
      ∧ r.2.mem ((c.tc : Thread nD τ).loc main_v29_1) = lastHidden m c
      ∧ r.2.mem ((c.tc : Thread nD τ).loc main_v29_2) = lastCell m c
      ∧ r.2.mem ((c.tc : Thread nD τ).loc main_v30) = lastStacks m c) := by
  obtain ⟨t, ht⟩ : ∃ t : Fin cfg0.N, t.val = 1023 := ⟨⟨1023, by decide⟩, rfl⟩
  refine (θ_run defs _ _).mono (fun r h c => ?_) (named_run m ρ)
  obtain ⟨ha, hr⟩ := h c
  exact ⟨(ha 9).trans (outs_array m c), (ha 10).trans (hidden_array m c t ht), (ha 11).trans (cell_array m c t ht),
    (hr main_v30 (by decide)).trans (stack_array m c t ht _)⟩

end Cert.StackRnn
-- ==== Proof.StackRnn.RefStep.lean ====
/-
  One trip of the reference's loop, read at an index: each row of what the loop carries takes the cell's step (Spec.lean).
-/
module

public import proofs.«01_k».proof.Proof.Gen.ReferenceIdeal.Run
public import proofs.«01_k».proof.Proof.StackRnn.Spec
public import Idealize.ShloMosaic.Lib.Pointwise
public import Idealize.ShloMosaic.Lib.WordArith.Masks

@[expose] public section
set_option maxRecDepth 16384
noncomputable section
namespace Cert.StackRnn
open Idealize.ShloMosaic Idealize.ShloMosaic.TcCoe
open Cert.ReferenceIdeal Cert.ReferenceIdeal.Gen Cert.ReferenceIdeal.Value

variable (V0 : Valuation τ sig (Elt Ideal))

/-- The cell's parameters, as the loop carries them. -/
def refParams : Params where
  aw a k := (V0 (Proc.devRef .tc main_v3_1) : Vec Ideal S3x512 .f32) (ix2 a k)
  ab a := (V0 (Proc.devRef .tc main_v3_2) : Vec Ideal S3 .f32) (ix1 a)
  dw l k := (V0 (Proc.devRef .tc main_v3_3) : Vec Ideal S128x512 .f32) (ix2 l k)
  db l := (V0 (Proc.devRef .tc main_v3_4) : Vec Ideal S128 .f32) (ix1 l)
  wi g k := (V0 (Proc.devRef .tc main_v3_5) : Vec Ideal S2048x384 .f32) (ix2 g k)
  bi g := (V0 (Proc.devRef .tc main_v3_6) : Vec Ideal S2048 .f32) (ix1 g)
  wh g k := (V0 (Proc.devRef .tc main_v3_7) : Vec Ideal S2048x512 .f32) (ix2 g k)
  bh g := (V0 (Proc.devRef .tc main_v3_8) : Vec Ideal S2048 .f32) (ix1 g)

/-- Row `r` of what the loop carries. -/
def refRow (r : Fin 256) : RowState where
  h k := (V0 (Proc.devRef .tc main_v3_10) : Vec Ideal S256x512 .f32) (ix2 r k)
  c k := (V0 (Proc.devRef .tc main_v3_11) : Vec Ideal S256x512 .f32) (ix2 r k)
  s j l := (V0 (Proc.devRef .tc main_v3_12) : Vec Ideal S256x64x128 .f32) (ix3 r j l)

/-- The scores the trip computes are the row's scores. -/
theorem ref_logit (r : Fin 256) (a : Fin 3) :
    (res_main_while0b_v11 V0 : Vec Ideal S256x3 .f32) (ix2 r a) = logit (refParams V0) (refRow V0 r).h a := by
  unfold res_main_while0b_v11
  pointwise
  rfl

/-- A row of three values reduces to the row's place. -/
theorem drop_logit (r : Fin 256) (a : Fin 3) : reducesTo_S256x3_S256_d1.drop (ix2 r a) = ix1 r := by
  funext b
  fin_cases b
  exact Fin.ext (Shape.ReducesTo.drop_apply_val_of_eq reducesTo_S256x3_S256_d1 (ix2 r a) 0 0)

/-- The shifted exponentials of the scores: the reduction to the greatest score is the greatest of three. -/
theorem ref_expo (r : Fin 256) (a : Fin 3) :
    (res_main_while0b_v18 V0 : Vec Ideal S256x3 .f32) (ix2 r a) = expo (refParams V0) (refRow V0 r).h a := by
  unfold res_main_while0b_v18
  pointwise
  have hb : Ideal.ofBits FTy.f32 4286578688#32 = (⊥ : EReal) := by simp [Ideal.ofBits, Ideal.ieee]
  rw [hb, fold_max_eq _ _ (top3 (logit (refParams V0) (refRow V0 r).h)) ?_ ?_, bot_sup_eq, ref_logit]
  · rfl
  · intro i hi
    idx_vars i
    have h := (Finset.mem_filter.mp hi).2
    rw [drop_logit] at h
    rw [show i0 = r from congrFun h 0, ref_logit]
    exact le_top3 _ _
  · obtain ⟨a, ha⟩ := exists_top3 (logit (refParams V0) (refRow V0 r).h)
    refine ⟨ix2 r a, Finset.mem_filter.mpr ⟨Finset.mem_univ _, ?_⟩, ?_⟩
    · exact drop_logit r a
    · rw [ref_logit]; exact ha

/-- The trip's softmax is the row's action weights. -/
theorem ref_action (r : Fin 256) (a : Fin 3) :
    (res_main_while0b_v22 V0 : Vec Ideal S256x3 .f32) (ix2 r a) = action (refParams V0) (refRow V0 r).h a := by
  unfold res_main_while0b_v22
  pointwise
  simp only [ref_expo]
  rfl

/-- The trip's new stack is the row's new stack. -/
theorem ref_stack (r : Fin 256) (a : Fin 64) (k : Fin 128) : (res_main_while0b_v52 V0 : Vec Ideal S256x64x128 .f32) (ix3 r a k) = stackNext (refParams V0) (refRow V0 r) a k := by
  unfold res_main_while0b_v52
  pointwise
  simp only [ref_action]
  rfl

/-- Row `r` of the input that the loop's trip reads. -/
def refX (n : ℕ) (hn : n < 1024) (r : Fin 256) (k : Fin 256) : EReal :=
  (V0 (Proc.devRef .tc main_v3_0) : Vec Ideal S1024x256x256 .f32) (ix3 ⟨n, hn⟩ r k)

variable (n : ℕ) (hn : n < 1024) (hc : V0 (Proc.devRef .tc main_v3_9) = fun _ => Scf.iv 0#32 1#32 n)

/-- Where the trip's slice starts: at the trip's number on the leading axis, at zero on the others. -/
def starts : Fin 3 → ℤ := fun k => BitVec.toInt
  ((![V0 (Proc.devRef .tc main_v3_9), constantI S_ 32 0#32, constantI S_ 32 0#32] : Fin 3 → Vec Ideal S_ .i32) k (Shape.Idx.first h_S_))

include hn hc in
/-- At trip `n` the slice starts at `n`. -/
theorem starts_eq : starts V0 = ![(n : ℤ), 0, 0] := by
  funext k
  unfold starts
  fin_cases k
  · show BitVec.toInt (V0 (Proc.devRef .tc main_v3_9) _) = (n : ℤ)
    rw [hc]
    show BitVec.toInt (Scf.iv 0#32 1#32 n) = (n : ℤ)
    have h := WordArith.toNat_iv_zero_one n (by omega)
    rw [BitVec.toInt_eq_toNat_of_lt (by omega), h]
  · rfl
  · rfl

/-- The input's element that the trip's slice shows at `(r, k)`. -/
theorem slice_x (f : Fin 3 → ℤ) (hf : f = ![(n : ℤ), 0, 0]) (r k : Fin 256) (p0 p1 p2) :
    (V0 (Proc.devRef .tc main_v3_0) : Vec Ideal S1024x256x256 .f32)
      (ix3 ⟨Host.clampedStart S1024x256x256 S1x256x256 rfl f 0, p0⟩ ⟨Host.clampedStart S1024x256x256 S1x256x256 rfl f 1 + r.val, p1⟩
        ⟨Host.clampedStart S1024x256x256 S1x256x256 rfl f 2 + k.val, p2⟩) = refX V0 n hn r k := by
  have c0 : Host.clampedStart S1024x256x256 S1x256x256 rfl f 0 = n :=
    Host.clampedStart_of_le _ _ 0 n (by rw [hf]; rfl) (show n + 1 ≤ 1024 by omega)
  have c1 : Host.clampedStart S1024x256x256 S1x256x256 rfl f 1 = 0 :=
    Host.clampedStart_of_le _ _ 1 0 (by rw [hf]; rfl) (show 0 + 256 ≤ 256 by omega)
  have c2 : Host.clampedStart S1024x256x256 S1x256x256 rfl f 2 = 0 :=
    Host.clampedStart_of_le _ _ 2 0 (by rw [hf]; rfl) (show 0 + 256 ≤ 256 by omega)
  simp only [c0, c1, c2, Nat.zero_add, refX]

include hc in
/-- The trip's gate sums are the row's. -/
theorem ref_gate (r : Fin 256) (a : Fin 2048) : (res_main_while0b_v66 V0 : Vec Ideal S256x2048 .f32) (ix2 r a) = gate (refParams V0) (refX V0 n hn r) (refRow V0 r) a := by
  unfold res_main_while0b_v66
  pointwise
  exact congrArg₂ (· + ·) (congrArg₂ (· + ·) (congrArg₂ (· + ·) (congrArg₂ (· + ·)
    (Finset.sum_congr rfl fun x _ => congrArg₂ (· * ·) (slice_x V0 n hn _ (starts_eq V0 n hn hc) r x _ _ _) rfl)
    (Finset.sum_congr rfl fun x _ => congrArg₂ (· * ·) (ref_stack V0 r 0 x) rfl)) rfl) rfl) rfl

include hc in
/-- The trip's cell rows. -/
theorem ref_cell (r : Fin 256) (a : Fin 512) : (res_main_while0b_v86 V0 : Vec Ideal S256x512 .f32) (ix2 r a) = cellNext (refParams V0) (refX V0 n hn r) (refRow V0 r) a := by
  unfold res_main_while0b_v86
  pointwise
  simp only [ref_gate V0 n hn hc]
  rfl

include hc in
/-- The trip's hidden rows. -/
theorem ref_hid (r : Fin 256) (a : Fin 512) : (res_main_while0b_v94 V0 : Vec Ideal S256x512 .f32) (ix2 r a) = hidNext (refParams V0) (refX V0 n hn r) (refRow V0 r) a := by
  unfold res_main_while0b_v94
  pointwise
  simp only [ref_gate V0 n hn hc, ref_cell V0 n hn hc]
  rfl

include hn hc in
/-- The trip writes its hidden rows at its own place of the outputs and leaves the others. -/
theorem ref_out (r : Fin 256) (i : Fin 1024) (a : Fin 512) : (step_main_v3_13 V0 : Vec Ideal S1024x256x512 .f32) (ix3 i r a) = if i.val = n then (res_main_while0b_v94 V0 : Vec Ideal S256x512 .f32) (ix2 r a)
  else (V0 (Proc.devRef .tc main_v3_13) : Vec Ideal S1024x256x512 .f32) (ix3 i r a) := by
  unfold step_main_v3_13
  rw [id_eq]
  pointwise
  have hs := starts_eq V0 n hn hc
  have c0 : Host.clampedStart S1024x256x512 S1x256x512 rfl (starts V0) 0 = n :=
    Host.clampedStart_of_le _ _ 0 n (by rw [hs]; rfl) (show n + 1 ≤ 1024 by omega)
  have c1 : Host.clampedStart S1024x256x512 S1x256x512 rfl (starts V0) 1 = 0 :=
    Host.clampedStart_of_le _ _ 1 0 (by rw [hs]; rfl) (show 0 + 256 ≤ 256 by omega)
  have c2 : Host.clampedStart S1024x256x512 S1x256x512 rfl (starts V0) 2 = 0 :=
    Host.clampedStart_of_le _ _ 2 0 (by rw [hs]; rfl) (show 0 + 512 ≤ 512 by omega)
  by_cases h : i.val = n
  · rw [if_pos h]
    refine (dif_pos fun k => ?_).trans ?_
    · fin_cases k
      · show Host.clampedStart S1024x256x512 S1x256x512 rfl (starts V0) 0 ≤ i.val ∧ i.val < Host.clampedStart S1024x256x512 S1x256x512 rfl (starts V0) 0 + 1
        omega
      · show Host.clampedStart S1024x256x512 S1x256x512 rfl (starts V0) 1 ≤ r.val ∧ r.val < Host.clampedStart S1024x256x512 S1x256x512 rfl (starts V0) 1 + 256
        omega
      · show Host.clampedStart S1024x256x512 S1x256x512 rfl (starts V0) 2 ≤ a.val ∧ a.val < Host.clampedStart S1024x256x512 S1x256x512 rfl (starts V0) 2 + 512
        omega
    · refine congrArg (res_main_while0b_v94 V0 : Vec Ideal S256x512 .f32) (congrArg₂ ix2 ?_ ?_)
      · exact Fin.ext (show r.val - Host.clampedStart S1024x256x512 S1x256x512 rfl (starts V0) 1 = r.val by omega)
      · exact Fin.ext (show a.val - Host.clampedStart S1024x256x512 S1x256x512 rfl (starts V0) 2 = a.val by omega)
  · rw [if_neg h]
    refine dif_neg fun hh => h ?_
    have h0 := hh 0
    change Host.clampedStart S1024x256x512 S1x256x512 rfl (starts V0) 0 ≤ i.val ∧ i.val < Host.clampedStart S1024x256x512 S1x256x512 rfl (starts V0) 0 + 1 at h0
    omega

end Cert.StackRnn
-- ==== Proof.StackRnn.RefRun.lean ====
/-
  The reference's loop, all its trips: the state and the outputs after `n` trips, in terms of the arguments.
-/
module

public import proofs.«01_k».proof.Proof.StackRnn.RefStep
public import Idealize.ShloMosaic.Lib.StableHlo.ReadAt

@[expose] public section
set_option maxRecDepth 16384
noncomputable section
namespace Cert.StackRnn
open Idealize.ShloMosaic Idealize.ShloMosaic.TcCoe Idealize.ShloMosaic.StableHlo Idealize.ShloMosaic.HostLoop
open Idealize.SL.Sem
open Cert.ReferenceIdeal Cert.ReferenceIdeal.Gen Cert.ReferenceIdeal.Value

/-- What the loop carries after `n` trips. -/
abbrev trips (m : (ℓ : Loc nD τ sig) → Buf (Elt Ideal) ℓ) (c : Dev nD) (n : ℕ) : Valuation τ sig (Elt Ideal) :=
  Cert.ReferenceIdeal.Value.STEP^[n] (entryContents preI m c)

variable (m : (ℓ : Loc nD τ sig) → Buf (Elt Ideal) ℓ) (c : Dev nD)

/-- The parameters, as the arguments hold them. -/
def refArgParams : Params where
  aw a k := (m ((c.tc : Thread nD τ).loc main_arg4) : Vec Ideal S3x512 .f32) (ix2 a k)
  ab a := (m ((c.tc : Thread nD τ).loc main_arg5) : Vec Ideal S3 .f32) (ix1 a)
  dw l k := (m ((c.tc : Thread nD τ).loc main_arg6) : Vec Ideal S128x512 .f32) (ix2 l k)
  db l := (m ((c.tc : Thread nD τ).loc main_arg7) : Vec Ideal S128 .f32) (ix1 l)
  wi g k := (m ((c.tc : Thread nD τ).loc main_arg8) : Vec Ideal S2048x384 .f32) (ix2 g k)
  wh g k := (m ((c.tc : Thread nD τ).loc main_arg9) : Vec Ideal S2048x512 .f32) (ix2 g k)
  bi g := (m ((c.tc : Thread nD τ).loc main_arg10) : Vec Ideal S2048 .f32) (ix1 g)
  bh g := (m ((c.tc : Thread nD τ).loc main_arg11) : Vec Ideal S2048 .f32) (ix1 g)

/-- Row `r` of the state that the arguments hold. -/
def refArgRow (r : Fin 256) : RowState where
  h k := (m ((c.tc : Thread nD τ).loc main_arg1) : Vec Ideal S1x256x512 .f32) (ix3 0 r k)
  c k := (m ((c.tc : Thread nD τ).loc main_arg2) : Vec Ideal S1x256x512 .f32) (ix3 0 r k)
  s j l := (m ((c.tc : Thread nD τ).loc main_arg3) : Vec Ideal S256x64x128 .f32) (ix3 r j l)

/-- Row `r` of the input of step `t` (of the last step beyond the sequence). -/
def refArgX (r : Fin 256) (t : ℕ) (k : Fin 256) : EReal :=
  (m ((c.tc : Thread nD τ).loc main_arg0) : Vec Ideal S1024x256x256 .f32) (ix3 ⟨min t 1023, (Nat.min_le_right _ _).trans_lt (by decide)⟩ r k)

/-- The loop enters with the parameters that the arguments hold. -/
theorem entry_params : refParams (entryContents preI m c) = refArgParams m c := by
  simp only [refParams, refArgParams, entryContents, afterL_cons, afterL_nil]
  after_reads_simp
  simp only [id_eq]

/-- The loop enters with the input. -/
theorem entry_x : entryContents preI m c (Proc.devRef .tc main_v3_0) = m ((c.tc : Thread nD τ).loc main_arg0) := by
  simp only [entryContents, afterL_cons, afterL_nil]
  after_reads_simp
  rfl

/-- The loop enters with the state that the arguments hold. -/
theorem entry_row (r : Fin 256) : refRow (entryContents preI m c) r = refArgRow m c r := by
  simp only [refRow, refArgRow, entryContents, afterL_cons, afterL_nil]
  congr 1
  · funext k
    after_reads_at
    rfl
  · funext k
    after_reads_at
    rfl

/-- The parameters stay as the arguments hold them. -/
theorem trips_params (n : ℕ) : refParams (trips m c n) = refArgParams m c := by
  induction n with
  | zero => exact entry_params m c
  | succ n ih =>
    rw [← ih]
    show refParams (STEP^[n + 1] _) = refParams (STEP^[n] _)
    rw [Function.iterate_succ_apply']
    simp only [refParams]
    rw [STEP_main_v3_1, STEP_main_v3_2, STEP_main_v3_3, STEP_main_v3_4, STEP_main_v3_5, STEP_main_v3_6, STEP_main_v3_7, STEP_main_v3_8]

/-- The input stays as the argument holds it. -/
theorem trips_x (n : ℕ) : trips m c n (Proc.devRef .tc main_v3_0) = m ((c.tc : Thread nD τ).loc main_arg0) := by
  induction n with
  | zero => exact entry_x m c
  | succ n ih => rw [trips, Function.iterate_succ_apply', STEP_main_v3_0]; exact ih

/-- The counter before trip `n` is `n`. -/
theorem trips_ctr (n : ℕ) : trips m c n (Proc.devRef .tc main_v3_9) = fun _ => Scf.iv 0#32 1#32 n :=
  ((atK_agree m c n) main_v3_9 (by decide)).symm.trans (atK_ctr m c n)

/-- After `n` trips row `r` of the state is the cell's step taken `n` times. -/
theorem trips_row (r : Fin 256) (n : ℕ) (hn : n ≤ 1024) : refRow (trips m c n) r = rowAfter (refArgParams m c) (refArgX m c r) (refArgRow m c r) n := by
  induction n with
  | zero => exact entry_row m c r
  | succ n ih =>
    have hx : refX (trips m c n) n hn r = refArgX m c r n := by
      funext k
      simp only [refX, refArgX, Nat.min_eq_left (Nat.le_of_lt_succ hn)]
      rw [trips_x]
    rw [rowAfter, ← ih (by omega), ← hx, ← trips_params m c n]
    show refRow (STEP^[n + 1] _) r = _
    rw [Function.iterate_succ_apply']
    simp only [refRow, STEP_main_v3_10, STEP_main_v3_11, STEP_main_v3_12, rowNext]
    congr 1
    · funext k; exact ref_hid _ n hn (trips_ctr m c n) r k
    · funext k; exact ref_cell _ n hn (trips_ctr m c n) r k
    · funext j k; exact ref_stack _ r j k

/-- The outputs after `n` trips: row `i` holds the hidden rows of step `i` once that step is done. -/
theorem trips_out (n : ℕ) (hn : n ≤ 1024) (i : Fin 1024) (hi : i.val < n) (r : Fin 256) (k : Fin 512) :
    (trips m c n (Proc.devRef .tc main_v3_13) : Vec Ideal S1024x256x512 .f32) (ix3 i r k)
      = (rowAfter (refArgParams m c) (refArgX m c r) (refArgRow m c r) (i.val + 1)).h k := by
  induction n with
  | zero => omega
  | succ n ih =>
    show (STEP^[n + 1] (entryContents preI m c) (Proc.devRef .tc main_v3_13) : Vec Ideal S1024x256x512 .f32) (ix3 i r k) = _
    rw [Function.iterate_succ_apply', STEP_main_v3_13, ref_out _ n (by omega) (trips_ctr m c n)]
    split_ifs with h
    · rw [h, ← trips_row m c r (n + 1) hn]
      simp only [refRow, trips]
      rw [Function.iterate_succ_apply', STEP_main_v3_10]
      rfl
    · exact ih (by omega) (by omega)

end Cert.StackRnn
-- ==== Proof.StackRnn.Meet.lean ====
/-
  From equal arguments the kernel's results and the reference's are equal.
-/
module

public import proofs.«01_k».proof.Proof.StackRnn.Results
public import proofs.«01_k».proof.Proof.StackRnn.RefRun

@[expose] public section

set_option maxRecDepth 16384

noncomputable section

namespace Cert.StackRnn

open Idealize.ShloMosaic Idealize.ShloMosaic.TcCoe Idealize.SL.Sem
open Cert.ReferenceIdeal.Value (out_main_v4 out_main_v5)

section Reads

variable (Y : Valuation Cert.ReferenceIdeal.τ Cert.ReferenceIdeal.sig (Elt Ideal)) (st : Fin 256 → RowState) (h : ∀ r, refRow Y r = st r)

include h

/-- The reference's second result, from the rows the loop ends with. -/
theorem ref_hidden : out_main_v4 Y = (fun i => (st (i 1)).h (i 2) : Vec Ideal Cert.ReferenceIdeal.S1x256x512 .f32) := by
  funext i
  unfold out_main_v4
  pointwise
  exact congrArg (fun s : RowState => s.h (i 2)) (h (i 1))

/-- The reference's third result, likewise. -/
theorem ref_cells : out_main_v5 Y = (fun i => (st (i 1)).c (i 2) : Vec Ideal Cert.ReferenceIdeal.S1x256x512 .f32) := by
  funext i
  unfold out_main_v5
  pointwise
  exact congrArg (fun s : RowState => s.c (i 2)) (h (i 1))

/-- The reference's fourth result, likewise. -/
theorem ref_stacks : Y (Proc.devRef .tc Cert.ReferenceIdeal.main_v3_12)
    = (fun i => (st (i 0)).s (i 1) (i 2) : Vec Ideal Cert.ReferenceIdeal.S256x64x128 .f32) := by
  funext i
  refine Eq.trans (congrArg (Y (Proc.devRef .tc Cert.ReferenceIdeal.main_v3_12) : Vec Ideal Cert.ReferenceIdeal.S256x64x128 .f32) ?_)
    (congrArg (fun s : RowState => s.s (i 1) (i 2)) (h (i 0)))
  funext a
  fin_cases a <;> rfl

end Reads

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs see the same cell: equal parameters, and for every row an equal state and an equal sequence. -/
structure SameCell : Prop where
  params : refArgParams m' c = kerParams m c
  row : ∀ r, refArgRow m' c r = kerRow m c r
  seq : ∀ r, refArgX m' c r = kerX m c r

variable {m m' c} (S : SameCell m m' c)

include S

/-- Every row is in the same state after any number of steps. -/
theorem SameCell.after (r : Fin 256) (n : ℕ) : rowAfter (refArgParams m' c) (refArgX m' c r) (refArgRow m' c r) n = kerAfter m c r n := by
  rw [S.params, S.row, S.seq]

/-- The reference's loop ends with every row where the kernel leaves it. -/
theorem SameCell.final (r : Fin 256) : refRow (trips m' c 1024) r = kerAfter m c r 1024 :=
  (trips_row m' c r 1024 (le_refl _)).trans (S.after r 1024)

/-- The first results are equal. -/
theorem SameCell.outs : trips m' c 1024 (Proc.devRef .tc Cert.ReferenceIdeal.main_v3_13) = allHidden m c := by
  funext i
  have e := (trips_out m' c 1024 (le_refl _) (i 0) (i 0).isLt (i 1) (i 2)).trans
    (congrArg (fun s : RowState => s.h (i 2)) (S.after (i 1) _))
  generalize trips m' c 1024 = Y at e ⊢
  refine Eq.trans (congrArg (Y (Proc.devRef .tc Cert.ReferenceIdeal.main_v3_13) : Vec Ideal Cert.ReferenceIdeal.S1024x256x512 .f32) ?_) e
  funext a
  fin_cases a <;> rfl

/-- The second results are equal. -/
theorem SameCell.hidden : out_main_v4 (trips m' c 1024) = lastHidden m c :=
  ref_hidden (trips m' c 1024) (fun r => kerAfter m c r 1024) S.final

/-- The third results are equal. -/
theorem SameCell.cells : out_main_v5 (trips m' c 1024) = lastCell m c :=
  ref_cells (trips m' c 1024) (fun r => kerAfter m c r 1024) S.final

/-- The fourth results are equal. -/
theorem SameCell.stacks : trips m' c 1024 (Proc.devRef .tc Cert.ReferenceIdeal.main_v3_12) = lastStacks m c :=
  ref_stacks (trips m' c 1024) (fun r => kerAfter m c r 1024) S.final

end Cert.StackRnn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.StackRnn.Meet
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged; it has no semaphores. -/
theorem reference_frame : Cert.quiescent_ReferenceIdeal := fun m g _ =>
  (θ_run _ _ _).mono (fun r h => ⟨fun c => (h c).2.2.2.2, sem_eq_zero_of_no_sems (by decide) r.2⟩) (Cert.ReferenceIdeal.Value.run m g)

open Cert.StackRnn in
/-- The kernel and the reference compute the same over the reals. -/
theorem same_results : Cert.algebraic_KernelIdeal_ReferenceIdeal := by
  intro m g m' g' _ hagree
  have S : ∀ c, SameCell m m' c := fun c => by
    obtain ⟨h0, h1, h2, h3, h4, h5, h6, h7, h8, h9, h10, h11⟩ := hagree c
    exact ⟨by simp only [refArgParams, kerParams, h4, h5, h6, h7, h8, h9, h10, h11],
      fun r => by simp only [refArgRow, kerRow, h1, h2, h3], fun r => by funext t k; simp only [refArgX, kerX, h0]⟩
  refine ⟨allHidden m, lastHidden m, lastCell m, lastStacks m, ?_, ?_⟩
  · refine (θ_run _ _ _).mono (fun r h c => ?_) (θ_run_and (kernel_results m g) (Cert.KernelIdeal.Gen.unchanged m g))
    obtain ⟨⟨r0, r1, r2, r3⟩, hargs⟩ := And.intro (h.1 c) (h.2 c)
    exact ⟨r0, r1, r2, r3, hargs⟩
  · refine (θ_run _ _ _).mono (fun r h c => ?_) (Cert.ReferenceIdeal.Value.run m' g')
    obtain ⟨r0, r1, r2, r3, hargs⟩ := h c
    exact ⟨r0.trans (S c).outs, r1.trans (S c).hidden, r2.trans (S c).cells, r3.trans (S c).stacks, hargs⟩

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame,
  trivial, same_results⟩

end Cert.Proof

end
